-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.bf16_pair.BufferStatement Cert.Kernel3Ideal.S32768x2x512 Cert.Kernel3Ideal.S32768x1x512
  ∧ IdealRules.bf16_pair.BufferStatement Cert.Kernel3Ideal.S512x2x512 Cert.Kernel3Ideal.S512x1x512
  ∧ IdealRules.bf16_pair.Statement Cert.Kernel3Ideal.S512x2x128 Cert.Kernel3Ideal.S512x1x128
  ∧ IdealRules.bf16_pack.Statement Cert.Kernel3Ideal.S512x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v38_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16x2048x1024 : Shape := ⟨3, ![16, 2048, 1024]⟩
abbrev S1x1024x8224 : Shape := ⟨3, ![1, 1024, 8224]⟩
abbrev S1x8 : Shape := ⟨2, ![1, 8]⟩
abbrev S1x1024 : Shape := ⟨2, ![1, 1024]⟩
abbrev S1024x8224 : Shape := ⟨2, ![1024, 8224]⟩
abbrev S_ : Shape := ⟨0, ![]⟩
abbrev S1024x120 : Shape := ⟨2, ![1024, 120]⟩
abbrev S1024x512 : Shape := ⟨2, ![1024, 512]⟩
abbrev S1024x2560 : Shape := ⟨2, ![1024, 2560]⟩
abbrev S1024x8 : Shape := ⟨2, ![1024, 8]⟩
abbrev S1024x3328 : Shape := ⟨2, ![1024, 3328]⟩
abbrev S8 : Shape := ⟨1, ![8]⟩
abbrev S1x128 : Shape := ⟨2, ![1, 128]⟩
abbrev S1x256 : Shape := ⟨2, ![1, 256]⟩
abbrev S1024 : Shape := ⟨1, ![1024]⟩
abbrev S2x256x1024 : Shape := ⟨3, ![2, 256, 1024]⟩
abbrev S2x4x128x256 : Shape := ⟨4, ![2, 4, 128, 256]⟩
abbrev S2x1x128 : Shape := ⟨3, ![2, 1, 128]⟩
abbrev S512x1024 : Shape := ⟨2, ![512, 1024]⟩
abbrev S512x512 : Shape := ⟨2, ![512, 512]⟩
abbrev S1024x1024 : Shape := ⟨2, ![1024, 1024]⟩
abbrev S1024x256 : Shape := ⟨2, ![1024, 256]⟩
abbrev S512x256 : Shape := ⟨2, ![512, 256]⟩
abbrev S128x128 : Shape := ⟨2, ![128, 128]⟩
abbrev S128x1 : Shape := ⟨2, ![128, 1]⟩
abbrev S128 : Shape := ⟨1, ![128]⟩
abbrev S1x1x128 : Shape := ⟨3, ![1, 1, 128]⟩
abbrev S1x1x128x256 : Shape := ⟨4, ![1, 1, 128, 256]⟩
abbrev S128x256 : Shape := ⟨2, ![128, 256]⟩
abbrev S1x1 : Shape := ⟨2, ![1, 1]⟩
abbrev S256x256 : Shape := ⟨2, ![256, 256]⟩
abbrev S1x128x128 : Shape := ⟨3, ![1, 128, 128]⟩

abbrev nBuf : Space → Nat
  | .hbm => 31
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1x1024x8224, .f32⟩
  | .hbm, ⟨2, _⟩ => ⟨S1x8, .f32⟩
  | .hbm, ⟨3, _⟩ => ⟨S1x8, .f32⟩
  | .hbm, ⟨4, _⟩ => ⟨S1x1024, .f32⟩
  | .hbm, ⟨5, _⟩ => ⟨S1024x8224, .f32⟩
  | .hbm, ⟨6, _⟩ => ⟨S_, .f32⟩
  | .hbm, ⟨7, _⟩ => ⟨S1024x120, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x2560, .f32⟩
  | .hbm, ⟨13, _⟩ => ⟨S1024x8, .f32⟩
  | .hbm, ⟨14, _⟩ => ⟨S1024x8, .f32⟩
  | .hbm, ⟨15, _⟩ => ⟨S1024x3328, .f32⟩
  | .hbm, ⟨16, _⟩ => ⟨S1024x3328, .bf16⟩
  | .hbm, ⟨17, _⟩ => ⟨S8, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S8, .f32⟩
  | .hbm, ⟨23, _⟩ => ⟨S1x8, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S1x256, .f32⟩
  | .hbm, ⟨28, _⟩ => ⟨S1024, .f32⟩
  | .hbm, ⟨29, _⟩ => ⟨S1x1024, .f32⟩
  | .hbm, ⟨30, _⟩ => ⟨S16x2048x1024, .bf16⟩
  | .local _ .vmem, ⟨0, _⟩ => ⟨S2x256x1024, .f32⟩
  | .local _ .vmem, ⟨1, _⟩ => ⟨S2x256x1024, .f32⟩
  | .local _ .vmem, ⟨2, _⟩ => ⟨S1024x3328, .bf16⟩
  | .local _ .vmem, ⟨3, _⟩ => ⟨S1x256, .f32⟩
  | .local _ .vmem, ⟨4, _⟩ => ⟨S1x1024, .f32⟩
  | .local _ .vmem, ⟨5, _⟩ => ⟨S2x256x1024, .bf16⟩
  | .local _ .vmem, ⟨6, _⟩ => ⟨S2x256x1024, .bf16⟩
  | .local _ .vmem, ⟨7, _⟩ => ⟨S2x4x128x256, .f32⟩
  | .local _ .vmem, ⟨8, _⟩ => ⟨S2x1x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2048x1024 : Shape := ⟨3, ![16, 2048, 1024]⟩
abbrev S1x1024x8224 : Shape := ⟨3, ![1, 1024, 8224]⟩
abbrev S1x8 : Shape := ⟨2, ![1, 8]⟩
abbrev S1x1024 : Shape := ⟨2, ![1, 1024]⟩
abbrev S1024x8224 : Shape := ⟨2, ![1024, 8224]⟩
abbrev S16x2048x8224 : Shape := ⟨3, ![16, 2048, 8224]⟩
abbrev S16x2048x2048 : Shape := ⟨3, ![16, 2048, 2048]⟩
abbrev S16x2048x16 : Shape := ⟨3, ![16, 2048, 16]⟩
abbrev S16x2048x512 : Shape := ⟨3, ![16, 2048, 512]⟩
abbrev S16x2048x8 : Shape := ⟨3, ![16, 2048, 8]⟩
abbrev S8 : Shape := ⟨1, ![8]⟩
abbrev S1024 : Shape := ⟨1, ![1024]⟩
abbrev S16x16x128x8x64 : Shape := ⟨5, ![16, 16, 128, 8, 64]⟩
abbrev S_ : Shape := ⟨0, ![]⟩
abbrev S16x16x128x8x128 : Shape := ⟨5, ![16, 16, 128, 8, 128]⟩
abbrev S1x1x8 : Shape := ⟨3, ![1, 1, 8]⟩
abbrev S16x16x128x8 : Shape := ⟨4, ![16, 16, 128, 8]⟩
abbrev S16x16x8x128 : Shape := ⟨4, ![16, 16, 8, 128]⟩
abbrev S128x128 : Shape := ⟨2, ![128, 128]⟩
abbrev S16x16x8x128x1 : Shape := ⟨5, ![16, 16, 8, 128, 1]⟩
abbrev S16x16x8x1x128 : Shape := ⟨5, ![16, 16, 8, 1, 128]⟩
abbrev S16x16x8x128x128 : Shape := ⟨5, ![16, 16, 8, 128, 128]⟩
abbrev S16x16x8x1 : Shape := ⟨4, ![16, 16, 8, 1]⟩
abbrev S16x16x8 : Shape := ⟨3, ![16, 16, 8]⟩
abbrev S16x16x128x8x1 : Shape := ⟨5, ![16, 16, 128, 8, 1]⟩
abbrev S16x16x8x64x128 : Shape := ⟨5, ![16, 16, 8, 64, 128]⟩
abbrev S16x16x8x64 : Shape := ⟨4, ![16, 16, 8, 64]⟩
abbrev S16x8x64x128 : Shape := ⟨4, ![16, 8, 64, 128]⟩
abbrev S16x8x64 : Shape := ⟨3, ![16, 8, 64]⟩
abbrev S16x8 : Shape := ⟨2, ![16, 8]⟩
abbrev S1x16x8x64x128 : Shape := ⟨5, ![1, 16, 8, 64, 128]⟩
abbrev S1x16x8x64 : Shape := ⟨4, ![1, 16, 8, 64]⟩
abbrev S1x16x8 : Shape := ⟨3, ![1, 16, 8]⟩
abbrev S16x8x1x1 : Shape := ⟨4, ![16, 8, 1, 1]⟩
abbrev S16x8x1 : Shape := ⟨3, ![16, 8, 1]⟩
abbrev S16x2048x8x128 : Shape := ⟨4, ![16, 2048, 8, 128]⟩
abbrev S16x2048x8x1 : Shape := ⟨4, ![16, 2048, 8, 1]⟩
abbrev S1x1x1024 : Shape := ⟨3, ![1, 1, 1024]⟩

abbrev nBuf : Space → Nat
  | .hbm => 253
  | .vmem => 0
  | .smem => 0
  | _ => 0

abbrev hbmTy0_0 (i : Nat) : BufTy := match i % 128 with
  | 0 => ⟨S16x2048x1024, .f32⟩
  | 1 => ⟨S1x1024x8224, .f32⟩
  | 2 => ⟨S1x8, .f32⟩
  | 3 => ⟨S1x8, .f32⟩
  | 4 => ⟨S1x1024, .f32⟩
  | 5 => ⟨S1024x8224, .f32⟩
  | 6 => ⟨S16x2048x8224, .f32⟩
  | 7 => ⟨S16x2048x1024, .f32⟩
  | 8 => ⟨S16x2048x2048, .f32⟩
  | 9 => ⟨S16x2048x16, .f32⟩
  | 10 => ⟨S16x2048x512, .f32⟩
  | 11 => ⟨S16x2048x512, .f32⟩
  | 12 => ⟨S16x2048x1024, .f32⟩
  | 13 => ⟨S16x2048x1024, .f32⟩
  | 14 => ⟨S16x2048x8, .f32⟩
  | 15 => ⟨S16x2048x8, .f32⟩
  | 16 => ⟨S16x2048x1024, .f32⟩
  | 17 => ⟨S16x2048x1024, .f32⟩
  | 18 => ⟨S8, .f32⟩
  | 19 => ⟨S8, .f32⟩
  | 20 => ⟨S1024, .f32⟩
  | 21 => ⟨S16x16x128x8x64, .f32⟩
  | 22 => ⟨S_, .f32⟩
  | 23 => ⟨S16x16x128x8x64, .f32⟩
  | 24 => ⟨S16x16x128x8x64, .f32⟩
  | 25 => ⟨S16x16x128x8x64, .f32⟩
  | 26 => ⟨S16x16x128x8x128, .f32⟩
  | 27 => ⟨S1x1x8, .f32⟩
  | 28 => ⟨S16x2048x8, .f32⟩
  | 29 => ⟨S16x2048x8, .f32⟩
  | 30 => ⟨S16x16x128x8, .f32⟩
  | 31 => ⟨S16x16x8x128, .f32⟩
  | 32 => ⟨S1x1x8, .f32⟩
  | 33 => ⟨S16x2048x8, .f32⟩
  | 34 => ⟨S16x2048x8, .f32⟩
  | 35 => ⟨S16x2048x8, .f32⟩
  | 36 => ⟨S_, .f32⟩
  | 37 => ⟨S16x2048x8, .f32⟩
  | 38 => ⟨S16x2048x8, .f32⟩
  | 39 => ⟨S16x2048x8, .f32⟩
  | 40 => ⟨S16x2048x8, .f32⟩
  | 41 => ⟨S16x2048x8, .i1⟩
  | 42 => ⟨S16x2048x8, .f32⟩
  | 43 => ⟨S16x2048x8, .f32⟩
  | 44 => ⟨S16x2048x8, .f32⟩
  | 45 => ⟨S16x2048x8, .f32⟩
  | 46 => ⟨S16x2048x8, .f32⟩
  | 47 => ⟨S16x2048x8, .f32⟩
  | 48 => ⟨S16x2048x8, .f32⟩
  | 49 => ⟨S16x2048x8, .f32⟩
  | 50 => ⟨S16x2048x8, .f32⟩
  | 51 => ⟨S16x16x128x8, .f32⟩
  | 52 => ⟨S16x16x8x128, .f32⟩
  | 53 => ⟨S_, .f32⟩
  | 54 => ⟨S_, .f32⟩
  | 55 => ⟨S16x16x8x128, .f32⟩
  | 56 => ⟨S_, .i1⟩
  | 57 => ⟨S128x128, .i1⟩
  | 58 => ⟨S128x128, .i32⟩
  | 59 => ⟨S_, .i32⟩
  | 60 => ⟨S128x128, .i32⟩
  | 61 => ⟨S128x128, .i32⟩
  | 62 => ⟨S128x128, .i32⟩
  | 63 => ⟨S128x128, .i1⟩
  | 64 => ⟨S_, .i1⟩
  | 65 => ⟨S128x128, .i1⟩
  | 66 => ⟨S128x128, .i1⟩
  | 67 => ⟨S16x16x8x128x1, .f32⟩
  | 68 => ⟨S16x16x8x1x128, .f32⟩
  | 69 => ⟨S16x16x8x128x128, .f32⟩
  | 70 => ⟨S16x16x8x128x128, .f32⟩
  | 71 => ⟨S16x16x8x128x128, .f32⟩
  | 72 => ⟨S16x16x8x1x128, .f32⟩
  | 73 => ⟨S16x16x8x128x128, .f32⟩
  | 74 => ⟨S16x16x8x128x128, .f32⟩
  | 75 => ⟨S_, .f32⟩
  | 76 => ⟨S_, .f32⟩
  | 77 => ⟨S16x16x8x128x128, .i1⟩
  | 78 => ⟨S16x16x8x128x128, .f32⟩
  | 79 => ⟨S16x16x8x128x128, .f32⟩
  | 80 => ⟨S16x16x8x1, .f32⟩
  | 81 => ⟨S16x16x8x128, .f32⟩
  | 82 => ⟨S16x16x8x128, .f32⟩
  | 83 => ⟨S16x16x8x128, .f32⟩
  | 84 => ⟨S_, .f32⟩
  | 85 => ⟨S16x16x8, .f32⟩
  | 86 => ⟨S16x16x8x1, .f32⟩
  | 87 => ⟨S16x16x8x128, .f32⟩
  | 88 => ⟨S16x16x8x128, .f32⟩
  | 89 => ⟨S16x16x8x128, .f32⟩
  | 90 => ⟨S16x16x128x8, .f32⟩
  | 91 => ⟨S16x16x128x8x1, .f32⟩
  | 92 => ⟨S16x16x128x8x64, .f32⟩
  | 93 => ⟨S16x16x128x8x64, .f32⟩
  | 94 => ⟨S16x16x8x64x128, .f32⟩
  | 95 => ⟨S16x16x8x64, .f32⟩
  | 96 => ⟨S16x16x8x1, .f32⟩
  | 97 => ⟨S16x16x8, .f32⟩
  | 98 => ⟨S_, .f32⟩
  | 99 => ⟨S16x8x64x128, .f32⟩
  | 100 => ⟨S_, .f32⟩
  | 101 => ⟨S16x8x64, .f32⟩
  | 102 => ⟨S_, .f32⟩
  | 103 => ⟨S16x8, .f32⟩
  | 104 => ⟨S16x16x8x64x128, .f32⟩
  | 105 => ⟨S16x16x8x64, .f32⟩
  | 106 => ⟨S16x16x8, .f32⟩
  | 107 => ⟨S16x16x8, .f32⟩
  | 108 => ⟨S_, .f32⟩
  | 109 => ⟨S16x16x8x64x128, .f32⟩
  | 110 => ⟨S_, .f32⟩
  | 111 => ⟨S16x16x8x64, .f32⟩
  | 112 => ⟨S_, .f32⟩
  | 113 => ⟨S16x16x8, .f32⟩
  | 114 => ⟨S_, .i32⟩
  | 115 => ⟨S16x16x8x64x128, .f32⟩
  | 116 => ⟨S16x16x8x64, .f32⟩
  | 117 => ⟨S16x16x8, .f32⟩
  | 118 => ⟨S16x16x8, .f32⟩
  | 119 => ⟨S_, .i32⟩
  | 120 => ⟨S16x8x64x128, .f32⟩
  | 121 => ⟨S16x8x64, .f32⟩
  | 122 => ⟨S16x8, .f32⟩
  | 123 => ⟨S16x16x8x64x128, .f32⟩
  | 124 => ⟨S16x16x8x64, .f32⟩
  | 125 => ⟨S16x16x8, .f32⟩
  | 126 => ⟨S_, .i32⟩
  | 127 => ⟨S_, .i1⟩
  | _ => ⟨S16x2048x1024, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x16x8x64x128, .f32⟩
  | 5 => ⟨S16x8x64x128, .f32⟩
  | 6 => ⟨S_, .i32⟩
  | 7 => ⟨S_, .i32⟩
  | 8 => ⟨S_, .i32⟩
  | 9 => ⟨S1x16x8x64, .f32⟩
  | 10 => ⟨S16x8x64, .f32⟩
  | 11 => ⟨S_, .i32⟩
  | 12 => ⟨S_, .i32⟩
  | 13 => ⟨S1x16x8, .f32⟩
  | 14 => ⟨S16x8, .f32⟩
  | 15 => ⟨S_, .i32⟩
  | 16 => ⟨S_, .i32⟩
  | 17 => ⟨S1x16x8, .f32⟩
  | 18 => ⟨S16x8, .f32⟩
  | 19 => ⟨S16x8, .f32⟩
  | 20 => ⟨S16x8, .f32⟩
  | 21 => ⟨S16x8, .f32⟩
  | 22 => ⟨S16x8, .f32⟩
  | 23 => ⟨S16x8, .f32⟩
  | 24 => ⟨S16x8, .f32⟩
  | 25 => ⟨S16x8, .f32⟩
  | 26 => ⟨S16x8x1x1, .f32⟩
  | 27 => ⟨S16x8x64x128, .f32⟩
  | 28 => ⟨S16x8x64x128, .f32⟩
  | 29 => ⟨S16x8x1x1, .f32⟩
  | 30 => ⟨S16x8x64x128, .f32⟩
  | 31 => ⟨S16x8x64x128, .f32⟩
  | 32 => ⟨S16x8x64x128, .f32⟩
  | 33 => ⟨S16x8x1, .f32⟩
  | 34 => ⟨S16x8x64, .f32⟩
  | 35 => ⟨S16x8x64, .f32⟩
  | 36 => ⟨S16x8x1, .f32⟩
  | 37 => ⟨S16x8x64, .f32⟩
  | 38 => ⟨S16x8x64, .f32⟩
  | 39 => ⟨S16x8x64, .f32⟩
  | 40 => ⟨S1x16x8x64x128, .f32⟩
  | 41 => ⟨S_, .i32⟩
  | 42 => ⟨S_, .i32⟩
  | 43 => ⟨S_, .i32⟩
  | 44 => ⟨S_, .i32⟩
  | 45 => ⟨S16x16x8x64x128, .f32⟩
  | 46 => ⟨S1x16x8x64, .f32⟩
  | 47 => ⟨S_, .i32⟩
  | 48 => ⟨S_, .i32⟩
  | 49 => ⟨S_, .i32⟩
  | 50 => ⟨S16x16x8x64, .f32⟩
  | 51 => ⟨S1x16x8, .f32⟩
  | 52 => ⟨S_, .i32⟩
  | 53 => ⟨S_, .i32⟩
  | 54 => ⟨S16x16x8, .f32⟩
  | 55 => ⟨S_, .i32⟩
  | 56 => ⟨S_, .i32⟩
  | 57 => ⟨S16x16x8x64x128, .f32⟩
  | 58 => ⟨S16x16x8x64, .f32⟩
  | 59 => ⟨S16x16x8, .f32⟩
  | 60 => ⟨S16x16x8x1, .f32⟩
  | 61 => ⟨S16x16x8x128, .f32⟩
  | 62 => ⟨S16x16x8x128, .f32⟩
  | 63 => ⟨S_, .f32⟩
  | 64 => ⟨S16x16x8x128, .f32⟩
  | 65 => ⟨S16x16x8x128, .f32⟩
  | 66 => ⟨S16x16x8x128x128, .f32⟩
  | 67 => ⟨S16x16x8x128x1, .f32⟩
  | 68 => ⟨S16x16x8x128x128, .f32⟩
  | 69 => ⟨S16x16x8x128x128, .f32⟩
  | 70 => ⟨S16x16x8x128x128, .f32⟩
  | 71 => ⟨S16x16x8x128x128, .f32⟩
  | 72 => ⟨S16x16x8x128, .f32⟩
  | 73 => ⟨S16x16x8x128, .f32⟩
  | 74 => ⟨S16x16x8x128x128, .f32⟩
  | 75 => ⟨S16x16x128x8x128, .f32⟩
  | 76 => ⟨S16x16x128x8, .f32⟩
  | 77 => ⟨S16x16x128x8x1, .f32⟩
  | 78 => ⟨S16x16x128x8x64, .f32⟩
  | 79 => ⟨S16x16x128x8x64, .f32⟩
  | 80 => ⟨S16x16x8x128x128, .f32⟩
  | 81 => ⟨S16x16x128x8x128, .f32⟩
  | 82 => ⟨S16x16x128x8x128, .f32⟩
  | 83 => ⟨S_, .f32⟩
  | 84 => ⟨S16x16x8x128, .f32⟩
  | 85 => ⟨S16x16x8x128, .f32⟩
  | 86 => ⟨S16x16x8x128, .f32⟩
  | 87 => ⟨S16x16x8x128, .f32⟩
  | 88 => ⟨S16x16x8x128, .f32⟩
  | 89 => ⟨S16x16x8x128, .f32⟩
  | 90 => ⟨S16x16x8x128, .f32⟩
  | 91 => ⟨S16x16x8x128, .f32⟩
  | 92 => ⟨S16x16x128x8, .f32⟩
  | 93 => ⟨S16x16x128x8x1, .f32⟩
  | 94 => ⟨S16x16x128x8x128, .f32⟩
  | 95 => ⟨S16x16x128x8x128, .f32⟩
  | 96 => ⟨S16x2048x1024, .f32⟩
  | 97 => ⟨S16x2048x1024, .f32⟩
  | 98 => ⟨S16x2048x1024, .f32⟩
  | 99 => ⟨S_, .f32⟩
  | 100 => ⟨S16x2048x1024, .f32⟩
  | 101 => ⟨S16x2048x1024, .f32⟩
  | 102 => ⟨S_, .f32⟩
  | 103 => ⟨S16x2048x1024, .f32⟩
  | 104 => ⟨S16x2048x1024, .f32⟩
  | 105 => ⟨S16x2048x8x128, .f32⟩
  | 106 => ⟨S16x2048x8x128, .f32⟩
  | 107 => ⟨S_, .f32⟩
  | 108 => ⟨S16x2048x8, .f32⟩
  | 109 => ⟨S16x2048x8x1, .f32⟩
  | 110 => ⟨S_, .f32⟩
  | 111 => ⟨S16x2048x8x1, .f32⟩
  | 112 => ⟨S16x2048x8x1, .f32⟩
  | 113 => ⟨S_, .f32⟩
  | 114 => ⟨S16x2048x8x1, .f32⟩
  | 115 => ⟨S16x2048x8x1, .f32⟩
  | 116 => ⟨S16x2048x8x1, .f32⟩
  | 117 => ⟨S16x2048x8x128, .f32⟩
  | 118 => ⟨S16x2048x8x128, .f32⟩
  | 119 => ⟨S16x2048x1024, .f32⟩
  | 120 => ⟨S1x1x1024, .f32⟩
  | 121 => ⟨S16x2048x1024, .f32⟩
  | 122 => ⟨S16x2048x1024, .f32⟩
  | 123 => ⟨S16x2048x1024, .f32⟩
  | 124 => ⟨S16x2048x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_call0_cst : Ref sig .tc := ⟨.hbm, 53, rfl⟩
abbrev main_call1_call0_v0 : Ref sig .tc := ⟨.hbm, 54, rfl⟩
abbrev main_v32 : Ref sig .tc := ⟨.hbm, 55, rfl⟩
abbrev main_c : Ref sig .tc := ⟨.hbm, 56, rfl⟩
abbrev main_v33 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_0 : Ref sig .tc := ⟨.hbm, 64, rfl⟩
abbrev main_call2_v5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_0 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_1 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_2 : Ref sig .tc := ⟨.hbm, 98, rfl⟩
abbrev main_v61 : Ref sig .tc := ⟨.hbm, 99, rfl⟩
abbrev main_cst_3 : Ref sig .tc := ⟨.hbm, 100, rfl⟩
abbrev main_v62 : Ref sig .tc := ⟨.hbm, 101, rfl⟩
abbrev main_cst_4 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_5 : Ref sig .tc := ⟨.hbm, 108, rfl⟩
abbrev main_v68 : Ref sig .tc := ⟨.hbm, 109, rfl⟩
abbrev main_cst_6 : Ref sig .tc := ⟨.hbm, 110, rfl⟩
abbrev main_v69 : Ref sig .tc := ⟨.hbm, 111, rfl⟩
abbrev main_cst_7 : Ref sig .tc := ⟨.hbm, 112, rfl⟩
abbrev main_v70 : Ref sig .tc := ⟨.hbm, 113, rfl⟩
abbrev main_c_8 : Ref sig .tc := ⟨.hbm, 114, rfl⟩
abbrev main_v71_0 : Ref sig .tc := ⟨.hbm, 115, rfl⟩
abbrev main_v71_1 : Ref sig .tc := ⟨.hbm, 116, rfl⟩
abbrev main_v71_2 : Ref sig .tc := ⟨.hbm, 117, rfl⟩
abbrev main_v71_3 : Ref sig .tc := ⟨.hbm, 118, rfl⟩
abbrev main_v71_4 : Ref sig .tc := ⟨.hbm, 119, rfl⟩
abbrev main_v71_5 : Ref sig .tc := ⟨.hbm, 120, rfl⟩
abbrev main_v71_6 : Ref sig .tc := ⟨.hbm, 121, rfl⟩
abbrev main_v71_7 : Ref sig .tc := ⟨.hbm, 122, rfl⟩
abbrev main_v71_8 : Ref sig .tc := ⟨.hbm, 123, rfl⟩
abbrev main_v71_9 : Ref sig .tc := ⟨.hbm, 124, rfl⟩
abbrev main_v71_10 : Ref sig .tc := ⟨.hbm, 125, rfl⟩
abbrev main_while0c_c_26 : Ref sig .tc := ⟨.hbm, 126, rfl⟩
abbrev main_while0c_v133 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_call4_v0 : Ref sig .tc := ⟨.hbm, 132, rfl⟩
abbrev main_while0b_v133 : Ref sig .tc := ⟨.hbm, 133, rfl⟩
abbrev main_while0b_call5_c : Ref sig .tc := ⟨.hbm, 134, rfl⟩
abbrev main_while0b_call5_c_0 : Ref sig .tc := ⟨.hbm, 135, rfl⟩
abbrev main_while0b_call5_c_1 : Ref sig .tc := ⟨.hbm, 136, rfl⟩
abbrev main_while0b_call5_v0 : Ref sig .tc := ⟨.hbm, 137, rfl⟩
abbrev main_while0b_v134 : Ref sig .tc := ⟨.hbm, 138, rfl⟩
abbrev main_while0b_call6_c : Ref sig .tc := ⟨.hbm, 139, rfl⟩
abbrev main_while0b_call6_c_0 : Ref sig .tc := ⟨.hbm, 140, rfl⟩
abbrev main_while0b_call6_v0 : Ref sig .tc := ⟨.hbm, 141, rfl⟩
abbrev main_while0b_v135 : Ref sig .tc := ⟨.hbm, 142, rfl⟩
abbrev main_while0b_call7_c : Ref sig .tc := ⟨.hbm, 143, rfl⟩
abbrev main_while0b_call7_c_0 : Ref sig .tc := ⟨.hbm, 144, rfl⟩
abbrev main_while0b_call7_v0 : Ref sig .tc := ⟨.hbm, 145, rfl⟩
abbrev main_while0b_v136 : Ref sig .tc := ⟨.hbm, 146, rfl⟩
abbrev main_while0b_v137 : Ref sig .tc := ⟨.hbm, 147, rfl⟩
abbrev main_while0b_v138 : Ref sig .tc := ⟨.hbm, 148, rfl⟩
abbrev main_while0b_v139 : Ref sig .tc := ⟨.hbm, 149, rfl⟩
abbrev main_while0b_v140 : Ref sig .tc := ⟨.hbm, 150, rfl⟩
abbrev main_while0b_v141 : Ref sig .tc := ⟨.hbm, 151, rfl⟩
abbrev main_while0b_v142 : Ref sig .tc := ⟨.hbm, 152, rfl⟩
abbrev main_while0b_v143 : Ref sig .tc := ⟨.hbm, 153, rfl⟩
abbrev main_while0b_v144 : Ref sig .tc := ⟨.hbm, 154, rfl⟩
abbrev main_while0b_v145 : Ref sig .tc := ⟨.hbm, 155, rfl⟩
abbrev main_while0b_v146 : Ref sig .tc := ⟨.hbm, 156, rfl⟩
abbrev main_while0b_v147 : Ref sig .tc := ⟨.hbm, 157, rfl⟩
abbrev main_while0b_v148 : Ref sig .tc := ⟨.hbm, 158, rfl⟩
abbrev main_while0b_v149 : Ref sig .tc := ⟨.hbm, 159, rfl⟩
abbrev main_while0b_v150 : Ref sig .tc := ⟨.hbm, 160, rfl⟩
abbrev main_while0b_v151 : Ref sig .tc := ⟨.hbm, 161, rfl⟩
abbrev main_while0b_v152 : Ref sig .tc := ⟨.hbm, 162, rfl⟩
abbrev main_while0b_v153 : Ref sig .tc := ⟨.hbm, 163, rfl⟩
abbrev main_while0b_v154 : Ref sig .tc := ⟨.hbm, 164, rfl⟩
abbrev main_while0b_v155 : Ref sig .tc := ⟨.hbm, 165, rfl⟩
abbrev main_while0b_v156 : Ref sig .tc := ⟨.hbm, 166, rfl⟩
abbrev main_while0b_v157 : Ref sig .tc := ⟨.hbm, 167, rfl⟩
abbrev main_while0b_call8_v0 : Ref sig .tc := ⟨.hbm, 168, rfl⟩
abbrev main_while0b_call8_c : Ref sig .tc := ⟨.hbm, 169, rfl⟩
abbrev main_while0b_call8_c_0 : Ref sig .tc := ⟨.hbm, 170, rfl⟩
abbrev main_while0b_call8_c_1 : Ref sig .tc := ⟨.hbm, 171, rfl⟩
abbrev main_while0b_call8_c_2 : Ref sig .tc := ⟨.hbm, 172, rfl⟩
abbrev main_while0b_v158 : Ref sig .tc := ⟨.hbm, 173, rfl⟩
abbrev main_while0b_call9_v0 : Ref sig .tc := ⟨.hbm, 174, rfl⟩
abbrev main_while0b_call9_c : Ref sig .tc := ⟨.hbm, 175, rfl⟩
abbrev main_while0b_call9_c_0 : Ref sig .tc := ⟨.hbm, 176, rfl⟩
abbrev main_while0b_call9_c_1 : Ref sig .tc := ⟨.hbm, 177, rfl⟩
abbrev main_while0b_v159 : Ref sig .tc := ⟨.hbm, 178, rfl⟩
abbrev main_while0b_call10_v0 : Ref sig .tc := ⟨.hbm, 179, rfl⟩
abbrev main_while0b_call10_c : Ref sig .tc := ⟨.hbm, 180, rfl⟩
abbrev main_while0b_call10_c_0 : Ref sig .tc := ⟨.hbm, 181, rfl⟩
abbrev main_while0b_v160 : Ref sig .tc := ⟨.hbm, 182, rfl⟩
abbrev main_while0b_c_26 : Ref sig .tc := ⟨.hbm, 183, rfl⟩
abbrev main_while0b_v161 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_cst_9 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_cst_10 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_cst_11 : Ref sig .tc := ⟨.hbm, 227, rfl⟩
abbrev main_v112 : Ref sig .tc := ⟨.hbm, 228, rfl⟩
abbrev main_v113 : Ref sig .tc := ⟨.hbm, 229, rfl⟩
abbrev main_cst_12 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_cst_13 : Ref sig .tc := ⟨.hbm, 235, rfl⟩
abbrev main_v118 : Ref sig .tc := ⟨.hbm, 236, rfl⟩
abbrev main_v119 : Ref sig .tc := ⟨.hbm, 237, rfl⟩
abbrev main_cst_14 : Ref sig .tc := ⟨.hbm, 238, rfl⟩
abbrev main_v120 : Ref sig .tc := ⟨.hbm, 239, rfl⟩
abbrev main_v121 : Ref sig .tc := ⟨.hbm, 240, rfl⟩
abbrev main_cst_15 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_v129 : Ref sig .tc := ⟨.hbm, 249, rfl⟩
abbrev main_v130 : Ref sig .tc := ⟨.hbm, 250, rfl⟩
abbrev main_v131 : Ref sig .tc := ⟨.hbm, 251, rfl⟩
abbrev main_v132 : Ref sig .tc := ⟨.hbm, 252, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16x2048x1024 : Shape := ⟨3, ![16, 2048, 1024]⟩
abbrev S1x16x2048x256 : Shape := ⟨4, ![1, 16, 2048, 256]⟩
abbrev S1x1024 : Shape := ⟨2, ![1, 1024]⟩
abbrev S1x1024x1024 : Shape := ⟨3, ![1, 1024, 1024]⟩
abbrev S1x256x1024 : Shape := ⟨3, ![1, 256, 1024]⟩
abbrev S32768x1024 : Shape := ⟨2, ![32768, 1024]⟩
abbrev S262144x128 : Shape := ⟨2, ![262144, 128]⟩
abbrev S16x2048x256 : Shape := ⟨3, ![16, 2048, 256]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S8192x128 : Shape := ⟨2, ![8192, 128]⟩
abbrev S1024x256 : Shape := ⟨2, ![1024, 256]⟩
abbrev S1024x128 : Shape := ⟨2, ![1024, 128]⟩
abbrev S1024x1 : Shape := ⟨2, ![1024, 1]⟩

abbrev nBuf : Space → Nat
  | .hbm => 20
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1x16x2048x256, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x256x1024, .f32⟩
  | .hbm, ⟨7, _⟩ => ⟨S32768x1024, .f32⟩
  | .hbm, ⟨8, _⟩ => ⟨S262144x128, .f32⟩
  | .hbm, ⟨9, _⟩ => ⟨S16x2048x256, .f32⟩
  | .hbm, ⟨10, _⟩ => ⟨S32768x256, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S256x1024, .f32⟩
  | .hbm, ⟨18, _⟩ => ⟨S256x1024, .bf16⟩
  | .hbm, ⟨19, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S8192x128, .f32⟩
  | .local _ .vmem, ⟨3, _⟩ => ⟨S8192x128, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16x2048x1024 : Shape := ⟨3, ![16, 2048, 1024]⟩
abbrev S1x16x2048x256 : Shape := ⟨4, ![1, 16, 2048, 256]⟩
abbrev S1x1024 : Shape := ⟨2, ![1, 1024]⟩
abbrev S1x1024x1024 : Shape := ⟨3, ![1, 1024, 1024]⟩
abbrev S1x256x1024 : Shape := ⟨3, ![1, 256, 1024]⟩
abbrev S_ : Shape := ⟨0, ![]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1024x1024 : Shape := ⟨2, ![1024, 1024]⟩
abbrev S16x2048x256 : Shape := ⟨3, ![16, 2048, 256]⟩
abbrev S256x1024 : Shape := ⟨2, ![256, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1x16x2048x256, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x256x1024, .f32⟩
  | .hbm, ⟨7, _⟩ => ⟨S_, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S1x1x1024, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S1024x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x2048x1024, .f32⟩
  | .hbm, ⟨46, _⟩ => ⟨S16x2048x1024, .f32⟩
  | .hbm, ⟨47, _⟩ => ⟨S_, .f32⟩
  | .hbm, ⟨48, _⟩ => ⟨S16x2048x1024, .f32⟩
  | .hbm, ⟨49, _⟩ => ⟨S16x2048x1024, .f32⟩
  | .hbm, ⟨50, _⟩ => ⟨S16x2048x256, .f32⟩
  | .hbm, ⟨51, _⟩ => ⟨S256x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024x8224 : Shape := ⟨3, ![1, 1024, 8224]⟩
abbrev S1x1024x1024 : Shape := ⟨3, ![1, 1024, 1024]⟩
abbrev S1x1024 : Shape := ⟨2, ![1, 1024]⟩
abbrev S1x1024x8 : Shape := ⟨3, ![1, 1024, 8]⟩
abbrev S1x8 : Shape := ⟨2, ![1, 8]⟩
abbrev S1x1024x64 : Shape := ⟨3, ![1, 1024, 64]⟩
abbrev S1x64 : Shape := ⟨2, ![1, 64]⟩
abbrev S1x64x1024x512 : Shape := ⟨4, ![1, 64, 1024, 512]⟩
abbrev S1x64x512x1024 : Shape := ⟨4, ![1, 64, 512, 1024]⟩
abbrev S1024x8224 : Shape := ⟨2, ![1024, 8224]⟩
abbrev S1024x2048 : Shape := ⟨2, ![1024, 2048]⟩
abbrev S1024x8 : Shape := ⟨2, ![1024, 8]⟩
abbrev S1024x64 : Shape := ⟨2, ![1024, 64]⟩
abbrev S1024x72 : Shape := ⟨2, ![1024, 72]⟩
abbrev S_ : Shape := ⟨0, ![]⟩
abbrev S1024x128 : Shape := ⟨2, ![1024, 128]⟩
abbrev S128x1024 : Shape := ⟨2, ![128, 1024]⟩
abbrev S256x1024 : Shape := ⟨2, ![256, 1024]⟩
abbrev S8 : Shape := ⟨1, ![8]⟩
abbrev S64 : Shape := ⟨1, ![64]⟩
abbrev S72 : Shape := ⟨1, ![72]⟩
abbrev S1x72 : Shape := ⟨2, ![1, 72]⟩
abbrev S1x128 : Shape := ⟨2, ![1, 128]⟩
abbrev S128x1 : Shape := ⟨2, ![128, 1]⟩
abbrev S128x512 : Shape := ⟨2, ![128, 512]⟩
abbrev S32768x1024 : Shape := ⟨2, ![32768, 1024]⟩
abbrev S1024x1024 : Shape := ⟨2, ![1024, 1024]⟩
abbrev S1024 : Shape := ⟨1, ![1024]⟩
abbrev S64x1024x512 : Shape := ⟨3, ![64, 1024, 512]⟩
abbrev S64x512x1024 : Shape := ⟨3, ![64, 512, 1024]⟩
abbrev S32768x512 : Shape := ⟨2, ![32768, 512]⟩
abbrev S32x8192 : Shape := ⟨2, ![32, 8192]⟩
abbrev S512x128 : Shape := ⟨2, ![512, 128]⟩
abbrev S512x1024 : Shape := ⟨2, ![512, 1024]⟩
abbrev S1x1024x512 : Shape := ⟨3, ![1, 1024, 512]⟩
abbrev S1x512x1024 : Shape := ⟨3, ![1, 512, 1024]⟩
abbrev S512x512 : Shape := ⟨2, ![512, 512]⟩
abbrev S8x512 : Shape := ⟨2, ![8, 512]⟩
abbrev S128x128 : Shape := ⟨2, ![128, 128]⟩
abbrev S512 : Shape := ⟨1, ![512]⟩
abbrev S512x1 : Shape := ⟨2, ![512, 1]⟩
abbrev S256x512 : Shape := ⟨2, ![256, 512]⟩
abbrev S1x512 : Shape := ⟨2, ![1, 512]⟩
abbrev S128 : Shape := ⟨1, ![128]⟩
abbrev S4x512 : Shape := ⟨2, ![4, 512]⟩
abbrev S6x512 : Shape := ⟨2, ![6, 512]⟩

abbrev nBuf : Space → Nat
  | .hbm => 66
  | .vmem => 37
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S1x1024x8224, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x8, .f32⟩
  | .hbm, ⟨10, _⟩ => ⟨S1x8, .f32⟩
  | .hbm, ⟨11, _⟩ => ⟨S1x1024x64, .f32⟩
  | .hbm, ⟨12, _⟩ => ⟨S1x64, .f32⟩
  | .hbm, ⟨13, _⟩ => ⟨S1x64x1024x512, .f32⟩
  | .hbm, ⟨14, _⟩ => ⟨S1x64x1024x512, .f32⟩
  | .hbm, ⟨15, _⟩ => ⟨S1x64x512x1024, .f32⟩
  | .hbm, ⟨16, _⟩ => ⟨S1024x8224, .f32⟩
  | .hbm, ⟨17, _⟩ => ⟨S1024x2048, .f32⟩
  | .hbm, ⟨18, _⟩ => ⟨S1024x2048, .bf16⟩
  | .hbm, ⟨19, _⟩ => ⟨S1024x8, .f32⟩
  | .hbm, ⟨20, _⟩ => ⟨S1024x64, .f32⟩
  | .hbm, ⟨21, _⟩ => ⟨S1024x72, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S128x1024, .f32⟩
  | .hbm, ⟨26, _⟩ => ⟨S128x1024, .bf16⟩
  | .hbm, ⟨27, _⟩ => ⟨S128x1024, .f32⟩
  | .hbm, ⟨28, _⟩ => ⟨S128x1024, .f32⟩
  | .hbm, ⟨29, _⟩ => ⟨S128x1024, .bf16⟩
  | .hbm, ⟨30, _⟩ => ⟨S256x1024, .bf16⟩
  | .hbm, ⟨31, _⟩ => ⟨S8, .f32⟩
  | .hbm, ⟨32, _⟩ => ⟨S64, .f32⟩
  | .hbm, ⟨33, _⟩ => ⟨S72, .f32⟩
  | .hbm, ⟨34, _⟩ => ⟨S1x72, .f32⟩
  | .hbm, ⟨35, _⟩ => ⟨S_, .i32⟩
  | .hbm, ⟨36, _⟩ => ⟨S_, .f32⟩
  | .hbm, ⟨37, _⟩ => ⟨S1x128, .f32⟩
  | .hbm, ⟨38, _⟩ => ⟨S128x1, .f32⟩
  | .hbm, ⟨39, _⟩ => ⟨S128x512, .f32⟩
  | .hbm, ⟨40, _⟩ => ⟨S32768x1024, .f32⟩
  | .hbm, ⟨41, _⟩ => ⟨S16x2048x1024, .bf16⟩
  | .hbm, ⟨42, _⟩ => ⟨S32768x1024, .bf16⟩
  | .hbm, ⟨43, _⟩ => ⟨S16x2048x1024, .bf16⟩
  | .hbm, ⟨44, _⟩ => ⟨S32768x1024, .bf16⟩
  | .hbm, ⟨45, _⟩ => ⟨S1024x1024, .f32⟩
  | .hbm, ⟨46, _⟩ => ⟨S1024x1024, .bf16⟩
  | .hbm, ⟨47, _⟩ => ⟨S1024x1024, .f32⟩
  | .hbm, ⟨48, _⟩ => ⟨S1024x1024, .bf16⟩
  | .hbm, ⟨49, _⟩ => ⟨S1024x1024, .f32⟩
  | .hbm, ⟨50, _⟩ => ⟨S1024x1024, .bf16⟩
  | .hbm, ⟨51, _⟩ => ⟨S1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S64x1024x512, .f32⟩
  | .hbm, ⟨56, _⟩ => ⟨S64x1024x512, .f32⟩
  | .hbm, ⟨57, _⟩ => ⟨S64x512x1024, .f32⟩
  | .hbm, ⟨58, _⟩ => ⟨S32768x1024, .f32⟩
  | .hbm, ⟨59, _⟩ => ⟨S32768x512, .i32⟩
  | .hbm, ⟨60, _⟩ => ⟨S32x8192, .i32⟩
  | .hbm, ⟨61, _⟩ => ⟨S512x128, .i32⟩
  | .hbm, ⟨62, _⟩ => ⟨S64x1024x512, .bf16⟩
  | .hbm, ⟨63, _⟩ => ⟨S64x1024x512, .bf16⟩
  | .hbm, ⟨64, _⟩ => ⟨S64x512x1024, .bf16⟩
  | .hbm, ⟨65, _⟩ => ⟨S32x8192, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S128x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x512x1024, .f32⟩
  | .local _ .vmem, ⟨19, _⟩ => ⟨S1x512x1024, .f32⟩
  | .local _ .vmem, ⟨20, _⟩ => ⟨S512x1024, .f32⟩
  | .local _ .vmem, ⟨21, _⟩ => ⟨S512x1024, .f32⟩
  | .local _ .vmem, ⟨22, _⟩ => ⟨S512x512, .i32⟩
  | .local _ .vmem, ⟨23, _⟩ => ⟨S512x512, .i32⟩
  | .local _ .vmem, ⟨24, _⟩ => ⟨S8x512, .i32⟩
  | .local _ .vmem, ⟨25, _⟩ => ⟨S8x512, .i32⟩
  | .local _ .vmem, ⟨26, _⟩ => ⟨S128x128, .i32⟩
  | .local _ .vmem, ⟨27, _⟩ => ⟨S128x128, .i32⟩
  | .local _ .vmem, ⟨28, _⟩ => ⟨S1x1024x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x512x1024, .bf16⟩
  | .local _ .vmem, ⟨33, _⟩ => ⟨S1x512x1024, .bf16⟩
  | .local _ .vmem, ⟨34, _⟩ => ⟨S8x512, .f32⟩
  | .local _ .vmem, ⟨35, _⟩ => ⟨S8x512, .f32⟩
  | .local _ .vmem, ⟨36, _⟩ => ⟨S128x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_0 : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_v38_2 : Ref sig .tc := ⟨.hbm, 60, rfl⟩
abbrev main_v38_3 : Ref sig .tc := ⟨.hbm, 61, rfl⟩
abbrev main_v38_4 : Ref sig .tc := ⟨.hbm, 62, rfl⟩
abbrev main_v38_5 : Ref sig .tc := ⟨.hbm, 63, rfl⟩
abbrev main_v38_6 : Ref sig .tc := ⟨.hbm, 64, rfl⟩
abbrev main_v38_7 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [BitOps F]

abbrev grid0 : Pipeline.Grid := ⟨1, ![64], ![false]⟩

def k0_cond2 (i : grid0.Coords) : BitVec 1 :=
  let arg0 : BitVec 32 := BitVec.ofNat 32 (i 0).val
  let c64_i32 : BitVec 32 := 64#32
  let v13 : BitVec 1 := Scalar.cmpi .slt arg0 c64_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_17 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_18 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_19 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_20 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_21 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel3Ideal.lean ====
abbrev S16x2048x1024 : Shape := ⟨3, ![16, 2048, 1024]⟩
abbrev S1x1024x8224 : Shape := ⟨3, ![1, 1024, 8224]⟩
abbrev S1x1024x1024 : Shape := ⟨3, ![1, 1024, 1024]⟩
abbrev S1x1024 : Shape := ⟨2, ![1, 1024]⟩
abbrev S1x1024x8 : Shape := ⟨3, ![1, 1024, 8]⟩
abbrev S1x8 : Shape := ⟨2, ![1, 8]⟩
abbrev S1x1024x64 : Shape := ⟨3, ![1, 1024, 64]⟩
abbrev S1x64 : Shape := ⟨2, ![1, 64]⟩
abbrev S1x64x1024x512 : Shape := ⟨4, ![1, 64, 1024, 512]⟩
abbrev S1x64x512x1024 : Shape := ⟨4, ![1, 64, 512, 1024]⟩
abbrev S1024x8224 : Shape := ⟨2, ![1024, 8224]⟩
abbrev S1024x2048 : Shape := ⟨2, ![1024, 2048]⟩
abbrev S1024x8 : Shape := ⟨2, ![1024, 8]⟩
abbrev S1024x64 : Shape := ⟨2, ![1024, 64]⟩
abbrev S1024x72 : Shape := ⟨2, ![1024, 72]⟩
abbrev S_ : Shape := ⟨0, ![]⟩
abbrev S1024x128 : Shape := ⟨2, ![1024, 128]⟩
abbrev S128x1024 : Shape := ⟨2, ![128, 1024]⟩
abbrev S256x1024 : Shape := ⟨2, ![256, 1024]⟩
abbrev S8 : Shape := ⟨1, ![8]⟩
abbrev S64 : Shape := ⟨1, ![64]⟩
abbrev S72 : Shape := ⟨1, ![72]⟩
abbrev S1x72 : Shape := ⟨2, ![1, 72]⟩
abbrev S1x128 : Shape := ⟨2, ![1, 128]⟩
abbrev S128x1 : Shape := ⟨2, ![128, 1]⟩
abbrev S128x512 : Shape := ⟨2, ![128, 512]⟩
abbrev S32768x1024 : Shape := ⟨2, ![32768, 1024]⟩
abbrev S1024x1024 : Shape := ⟨2, ![1024, 1024]⟩
abbrev S1024 : Shape := ⟨1, ![1024]⟩
abbrev S64x1024x512 : Shape := ⟨3, ![64, 1024, 512]⟩
abbrev S64x512x1024 : Shape := ⟨3, ![64, 512, 1024]⟩
abbrev S32768x2x512 : Shape := ⟨3, ![32768, 2, 512]⟩
abbrev S32x8192 : Shape := ⟨2, ![32, 8192]⟩
abbrev S512x128 : Shape := ⟨2, ![512, 128]⟩
abbrev S32768x1x512 : Shape := ⟨3, ![32768, 1, 512]⟩
abbrev S32768x512 : Shape := ⟨2, ![32768, 512]⟩
abbrev S512x1024 : Shape := ⟨2, ![512, 1024]⟩
abbrev S1x1024x512 : Shape := ⟨3, ![1, 1024, 512]⟩
abbrev S1x512x1024 : Shape := ⟨3, ![1, 512, 1024]⟩
abbrev S512x512 : Shape := ⟨2, ![512, 512]⟩
abbrev S512x2x512 : Shape := ⟨3, ![512, 2, 512]⟩
abbrev S512x1x512 : Shape := ⟨3, ![512, 1, 512]⟩
abbrev S8x512 : Shape := ⟨2, ![8, 512]⟩
abbrev S128x128 : Shape := ⟨2, ![128, 128]⟩
abbrev S512 : Shape := ⟨1, ![512]⟩
abbrev S512x1 : Shape := ⟨2, ![512, 1]⟩
abbrev S512x2x128 : Shape := ⟨3, ![512, 2, 128]⟩
abbrev S512x1x128 : Shape := ⟨3, ![512, 1, 128]⟩
abbrev S256x512 : Shape := ⟨2, ![256, 512]⟩
abbrev S1x512 : Shape := ⟨2, ![1, 512]⟩
abbrev S128 : Shape := ⟨1, ![128]⟩
abbrev S4x512 : Shape := ⟨2, ![4, 512]⟩
abbrev S6x512 : Shape := ⟨2, ![6, 512]⟩

abbrev nBuf : Space → Nat
  | .hbm => 66
  | .vmem => 37
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S1x1024x8224, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x8, .f32⟩
  | .hbm, ⟨10, _⟩ => ⟨S1x8, .f32⟩
  | .hbm, ⟨11, _⟩ => ⟨S1x1024x64, .f32⟩
  | .hbm, ⟨12, _⟩ => ⟨S1x64, .f32⟩
  | .hbm, ⟨13, _⟩ => ⟨S1x64x1024x512, .f32⟩
  | .hbm, ⟨14, _⟩ => ⟨S1x64x1024x512, .f32⟩
  | .hbm, ⟨15, _⟩ => ⟨S1x64x512x1024, .f32⟩
  | .hbm, ⟨16, _⟩ => ⟨S1024x8224, .f32⟩
  | .hbm, ⟨17, _⟩ => ⟨S1024x2048, .f32⟩
  | .hbm, ⟨18, _⟩ => ⟨S1024x2048, .bf16⟩
  | .hbm, ⟨19, _⟩ => ⟨S1024x8, .f32⟩
  | .hbm, ⟨20, _⟩ => ⟨S1024x64, .f32⟩
  | .hbm, ⟨21, _⟩ => ⟨S1024x72, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S128x1024, .f32⟩
  | .hbm, ⟨26, _⟩ => ⟨S128x1024, .bf16⟩
  | .hbm, ⟨27, _⟩ => ⟨S128x1024, .f32⟩
  | .hbm, ⟨28, _⟩ => ⟨S128x1024, .f32⟩
  | .hbm, ⟨29, _⟩ => ⟨S128x1024, .bf16⟩
  | .hbm, ⟨30, _⟩ => ⟨S256x1024, .bf16⟩
  | .hbm, ⟨31, _⟩ => ⟨S8, .f32⟩
  | .hbm, ⟨32, _⟩ => ⟨S64, .f32⟩
  | .hbm, ⟨33, _⟩ => ⟨S72, .f32⟩
  | .hbm, ⟨34, _⟩ => ⟨S1x72, .f32⟩
  | .hbm, ⟨35, _⟩ => ⟨S_, .i32⟩
  | .hbm, ⟨36, _⟩ => ⟨S_, .f32⟩
  | .hbm, ⟨37, _⟩ => ⟨S1x128, .f32⟩
  | .hbm, ⟨38, _⟩ => ⟨S128x1, .f32⟩
  | .hbm, ⟨39, _⟩ => ⟨S128x512, .f32⟩
  | .hbm, ⟨40, _⟩ => ⟨S32768x1024, .f32⟩
  | .hbm, ⟨41, _⟩ => ⟨S16x2048x1024, .bf16⟩
  | .hbm, ⟨42, _⟩ => ⟨S32768x1024, .bf16⟩
  | .hbm, ⟨43, _⟩ => ⟨S16x2048x1024, .bf16⟩
  | .hbm, ⟨44, _⟩ => ⟨S32768x1024, .bf16⟩
  | .hbm, ⟨45, _⟩ => ⟨S1024x1024, .f32⟩
  | .hbm, ⟨46, _⟩ => ⟨S1024x1024, .bf16⟩
  | .hbm, ⟨47, _⟩ => ⟨S1024x1024, .f32⟩
  | .hbm, ⟨48, _⟩ => ⟨S1024x1024, .bf16⟩
  | .hbm, ⟨49, _⟩ => ⟨S1024x1024, .f32⟩
  | .hbm, ⟨50, _⟩ => ⟨S1024x1024, .bf16⟩
  | .hbm, ⟨51, _⟩ => ⟨S1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S64x1024x512, .f32⟩
  | .hbm, ⟨56, _⟩ => ⟨S64x1024x512, .f32⟩
  | .hbm, ⟨57, _⟩ => ⟨S64x512x1024, .f32⟩
  | .hbm, ⟨58, _⟩ => ⟨S32768x1024, .f32⟩
  | .hbm, ⟨59, _⟩ => ⟨S32768x2x512, .bf16⟩
  | .hbm, ⟨60, _⟩ => ⟨S32x8192, .i32⟩
  | .hbm, ⟨61, _⟩ => ⟨S512x128, .i32⟩
  | .hbm, ⟨62, _⟩ => ⟨S64x1024x512, .bf16⟩
  | .hbm, ⟨63, _⟩ => ⟨S64x1024x512, .bf16⟩
  | .hbm, ⟨64, _⟩ => ⟨S64x512x1024, .bf16⟩
  | .hbm, ⟨65, _⟩ => ⟨S32x8192, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S128x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x512x1024, .f32⟩
  | .local _ .vmem, ⟨19, _⟩ => ⟨S1x512x1024, .f32⟩
  | .local _ .vmem, ⟨20, _⟩ => ⟨S512x1024, .f32⟩
  | .local _ .vmem, ⟨21, _⟩ => ⟨S512x1024, .f32⟩
  | .local _ .vmem, ⟨22, _⟩ => ⟨S512x2x512, .bf16⟩
  | .local _ .vmem, ⟨23, _⟩ => ⟨S512x2x512, .bf16⟩
  | .local _ .vmem, ⟨24, _⟩ => ⟨S8x512, .i32⟩
  | .local _ .vmem, ⟨25, _⟩ => ⟨S8x512, .i32⟩
  | .local _ .vmem, ⟨26, _⟩ => ⟨S128x128, .i32⟩
  | .local _ .vmem, ⟨27, _⟩ => ⟨S128x128, .i32⟩
  | .local _ .vmem, ⟨28, _⟩ => ⟨S1x1024x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x512x1024, .bf16⟩
  | .local _ .vmem, ⟨33, _⟩ => ⟨S1x512x1024, .bf16⟩
  | .local _ .vmem, ⟨34, _⟩ => ⟨S8x512, .f32⟩
  | .local _ .vmem, ⟨35, _⟩ => ⟨S8x512, .f32⟩
  | .local _ .vmem, ⟨36, _⟩ => ⟨S128x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_0 : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_v38_2 : Ref sig .tc := ⟨.hbm, 60, rfl⟩
abbrev main_v38_3 : Ref sig .tc := ⟨.hbm, 61, rfl⟩
abbrev main_v38_4 : Ref sig .tc := ⟨.hbm, 62, rfl⟩
abbrev main_v38_5 : Ref sig .tc := ⟨.hbm, 63, rfl⟩
abbrev main_v38_6 : Ref sig .tc := ⟨.hbm, 64, rfl⟩
abbrev main_v38_7 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c64_i32 : BitVec 32 := 64#32
  let v13 : BitVec 1 := Scalar.cmpi .slt arg0 c64_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_16 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_17 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_18 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_19 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_20 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_21 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S16x2048x1024 : Shape := ⟨3, ![16, 2048, 1024]⟩
abbrev S1x1024x8224 : Shape := ⟨3, ![1, 1024, 8224]⟩
abbrev S1x1024x1024 : Shape := ⟨3, ![1, 1024, 1024]⟩
abbrev S1x1024 : Shape := ⟨2, ![1, 1024]⟩
abbrev S1x1024x8 : Shape := ⟨3, ![1, 1024, 8]⟩
abbrev S1x8 : Shape := ⟨2, ![1, 8]⟩
abbrev S1x1024x64 : Shape := ⟨3, ![1, 1024, 64]⟩
abbrev S1x64 : Shape := ⟨2, ![1, 64]⟩
abbrev S1x64x1024x512 : Shape := ⟨4, ![1, 64, 1024, 512]⟩
abbrev S1x64x512x1024 : Shape := ⟨4, ![1, 64, 512, 1024]⟩
abbrev S1024x8224 : Shape := ⟨2, ![1024, 8224]⟩
abbrev S16x2048x8224 : Shape := ⟨3, ![16, 2048, 8224]⟩
abbrev S16x2048x2048 : Shape := ⟨3, ![16, 2048, 2048]⟩
abbrev S16x2048x16 : Shape := ⟨3, ![16, 2048, 16]⟩
abbrev S16x2048x512 : Shape := ⟨3, ![16, 2048, 512]⟩
abbrev S16x2048x8 : Shape := ⟨3, ![16, 2048, 8]⟩
abbrev S_ : Shape := ⟨0, ![]⟩
abbrev S1024x1024 : Shape := ⟨2, ![1024, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S1x1024x8224, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x8, .f32⟩
  | .hbm, ⟨10, _⟩ => ⟨S1x8, .f32⟩
  | .hbm, ⟨11, _⟩ => ⟨S1x1024x64, .f32⟩
  | .hbm, ⟨12, _⟩ => ⟨S1x64, .f32⟩
  | .hbm, ⟨13, _⟩ => ⟨S1x64x1024x512, .f32⟩
  | .hbm, ⟨14, _⟩ => ⟨S1x64x1024x512, .f32⟩
  | .hbm, ⟨15, _⟩ => ⟨S1x64x512x1024, .f32⟩
  | .hbm, ⟨16, _⟩ => ⟨S1024x8224, .f32⟩
  | .hbm, ⟨17, _⟩ => ⟨S16x2048x8224, .f32⟩
  | .hbm, ⟨18, _⟩ => ⟨S16x2048x1024, .f32⟩
  | .hbm, ⟨19, _⟩ => ⟨S16x2048x2048, .f32⟩
  | .hbm, ⟨20, _⟩ => ⟨S16x2048x16, .f32⟩
  | .hbm, ⟨21, _⟩ => ⟨S16x2048x512, .f32⟩
  | .hbm, ⟨22, _⟩ => ⟨S16x2048x512, .f32⟩
  | .hbm, ⟨23, _⟩ => ⟨S16x2048x1024, .f32⟩
  | .hbm, ⟨24, _⟩ => ⟨S16x2048x1024, .f32⟩
  | .hbm, ⟨25, _⟩ => ⟨S16x2048x8, .f32⟩
  | .hbm, ⟨26, _⟩ => ⟨S16x2048x8, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x2048x1024, .f32⟩
  | .hbm, ⟨36, _⟩ => ⟨S16x2048x1024, .f32⟩
  | .hbm, ⟨37, _⟩ => ⟨S1024x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S1024x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S_, .f32⟩
  | .hbm, ⟨53, _⟩ => ⟨S16x2048x1024, .f32⟩
  | .hbm, ⟨54, _⟩ => ⟨S16x2048x1024, .f32⟩
  | .hbm, ⟨55, _⟩ => ⟨S1024x1024, .f32⟩
  | .hbm, ⟨56, _⟩ => ⟨S16x2048x1024, .f32⟩
  | .hbm, ⟨57, _⟩ => ⟨S16x2048x1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S16x2048x1, .f32⟩
  | .hbm, ⟨79, _⟩ => ⟨S16x2048x1024, .f32⟩
  | .hbm, ⟨80, _⟩ => ⟨S16x2048x1024, .f32⟩
  | .hbm, ⟨81, _⟩ => ⟨S1x1x1024, .f32⟩
  | .hbm, ⟨82, _⟩ => ⟨S16x2048x1024, .f32⟩
  | .hbm, ⟨83, _⟩ => ⟨S16x2048x1024, .f32⟩
  | .hbm, ⟨84, _⟩ => ⟨S1x1x1024, .f32⟩
  | .hbm, ⟨85, _⟩ => ⟨S16x2048x1024, .f32⟩
  | .hbm, ⟨86, _⟩ => ⟨S16x2048x1024, .f32⟩
  | .hbm, ⟨87, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]
-- ==== Proof.Mlstm.KOps.lean ====
/- The kernel body's vector operations, once: what one 128-row chunk of one sequence computes for its gates, what one head
   of it stores into the output, and what two heads add to the carried state, each over the slices it reads. -/
module

public import proofs.«01_k».proof.Proof.Gen.KernelIdeal.Skeleton

@[expose] public section

set_option maxRecDepth 16384

noncomputable section

namespace Cert.Mlstm

open Cert.KernelIdeal Cert.KernelIdeal.Gen Idealize.ShloMosaic

variable {F : FTy → Type} [FloatOps F]

/-- The lane numbers of a 128 by 128 tile. -/
def laneF : IVec S128x128 32 := iota .tc S128x128 32 [1] iota_S128x128_d1_w32

/-- The logarithm of the forget gate on the first eight lanes, zero elsewhere. -/
def lfF (fp : FVec F S128x128 .f32) : FVec F S128x128 .f32 :=
  select (k0_pay13 laneF)
    (subf (minimumf fp (broadcast S128x128 (Scalar.ofBits .f32 0x00000000#32)))
      (log (addf (broadcast S128x128 (Scalar.ofBits .f32 0x3F800000#32))
        (exp (subf (broadcast S128x128 (Scalar.ofBits .f32 0x00000000#32)) (absf fp))))))
    (broadcast S128x128 (Scalar.ofBits .f32 0x00000000#32))

/-- A tile in three bf16 parts, each multiplied by the lower triangle and added. -/
def cumF (x : FVec F S128x128 .f32) : FVec F S128x128 .f32 :=
  addf (addf
      (matmul dot_S128x128_S128x128_S128x128_1_0_0_1_n_n none k0_pay12 (truncf .bf16 x bitsLt_bf16_f32)
        (constant S128x128 .f32 0x00000000#32))
      (matmul dot_S128x128_S128x128_S128x128_1_0_0_1_n_n none k0_pay12
        (truncf .bf16 (subf x (extf .f32 (truncf .bf16 x bitsLt_bf16_f32) bitsLt_bf16_f32)) bitsLt_bf16_f32)
        (constant S128x128 .f32 0x00000000#32)))
    (matmul dot_S128x128_S128x128_S128x128_1_0_0_1_n_n none k0_pay12
      (truncf .bf16
        (subf (subf x (extf .f32 (truncf .bf16 x bitsLt_bf16_f32) bitsLt_bf16_f32))
          (extf .f32 (truncf .bf16 (subf x (extf .f32 (truncf .bf16 x bitsLt_bf16_f32) bitsLt_bf16_f32)) bitsLt_bf16_f32)
            bitsLt_bf16_f32)) bitsLt_bf16_f32)
      (constant S128x128 .f32 0x00000000#32))

/-- The running sum of the forget gate's logarithm over the chunk's rows. -/
def fcF (fp : FVec F S128x128 .f32) : FVec F S128x128 .f32 := cumF (lfF fp)

/-- Its last row. -/
def ftF (fp : FVec F S128x128 .f32) : FVec F S1x128 .f32 :=
  extractStridedSlice S1x128 ![127, 0] (fcF fp) slices_S128x128_o127_0_S1x128

/-- The input gate's logarithm less the running sum. -/
def gkF (li fp : FVec F S128x128 .f32) : FVec F S128x128 .f32 := subf li (fcF fp)

/-- The same with rows and lanes exchanged. -/
def gtF (li fp : FVec F S128x128 .f32) : FVec F S128x128 .f32 :=
  transpose S128x128 [1, 0] (gkF li fp) transposes_S128x128_p1_0_S128x128

/-- The chunk's own stabilizer. -/
def mlF (li fp : FVec F S128x128 .f32) : FVec F S1x128 .f32 :=
  shapeCast S1x128
    (multiReduction .maximumf [0] S128 (addf (broadcastTo S128x128 (ftF fp) broadcasts_S1x128_S128x128) (gkF li fp))
      0xFF800000#32 reduces_S128x128_S128 (.inl rfl) rfl) shapeCasts_S128_S1x128

/-- The stabilizer after the chunk. -/
def mnF (li fp : FVec F S128x128 .f32) (m : FVec F S1x128 .f32) : FVec F S1x128 .f32 :=
  maximumf (addf (ftF fp) m) (mlF li fp)

/-- The weight of the state before the chunk. -/
def spF (li fp : FVec F S128x128 .f32) (m : FVec F S1x128 .f32) : FVec F S1x128 .f32 :=
  exp (subf (addf (ftF fp) m) (mnF li fp m))

/-- The weight of the chunk's own contribution. -/
def slF (li fp : FVec F S128x128 .f32) (m : FVec F S1x128 .f32) : FVec F S1x128 .f32 :=
  exp (subf (mlF li fp) (mnF li fp m))

/-- The stabilizer as it is stored: minus infinity past the eighth lane. -/
def msF (li fp : FVec F S128x128 .f32) (m : FVec F S1x128 .f32) : FVec F S1x1x128 .f32 :=
  shapeCast S1x1x128
    (select (cmpi .slt (iota .tc S1x128 32 [1] iota_S1x128_d1_w32) (broadcast S1x128 8#32)) (mnF li fp m)
      (broadcast S1x128 (Scalar.ofBits .f32 0xFF800000#32))) shapeCasts_S1x128_S1x1x128

/-- The weight of each row's key in the chunk's contribution. -/
def weF (li fp : FVec F S128x128 .f32) : FVec F S128x128 .f32 :=
  exp (addf (gkF li fp) (broadcastTo S128x128 (subf (ftF fp) (mlF li fp)) broadcasts_S1x128_S128x128))

/-- A column of the running sum, spread over the lanes. -/
def fcolF (h : ℕ) (hs : S128x128.Slices ![0, h] S128x1) (fp : FVec F S128x128 .f32) : FVec F S128x128 .f32 :=
  broadcastTo S128x128 (shapeCast S128x1 (extractStridedSlice S128x1 ![0, h] (fcF fp) hs) shapeCasts_S128x1_S128x1)
    broadcasts_S128x1_S128x128

/-- The logarithms of the weights within the chunk. -/
def ldF (h : ℕ) (hs : S128x128.Slices ![0, h] S128x1) (hr : S128x128.Slices ![h, 0] S1x128)
    (li fp : FVec F S128x128 .f32) : FVec F S128x128 .f32 :=
  select k0_pay11
    (addf (fcolF h hs fp)
      (broadcastTo S128x128 (shapeCast S1x128 (extractStridedSlice S1x128 ![h, 0] (gtF li fp) hr) shapeCasts_S1x128_S1x128)
        broadcasts_S1x128_S128x128))
    (broadcast S128x128 (Scalar.ofBits .f32 0xFF800000#32))

/-- The logarithm of the carried state's weight. -/
def ilF (h : ℕ) (hs : S128x128.Slices ![0, h] S128x1) (hm : S1x128.Slices ![0, h] S1x1)
    (fp : FVec F S128x128 .f32) (m : FVec F S1x128 .f32) : FVec F S128x128 .f32 :=
  addf (fcolF h hs fp) (broadcastTo S128x128 (extractStridedSlice S1x1 ![0, h] m hm) broadcasts_S1x1_S128x128)

/-- Each row's stabilizer. -/
def mtF (h : ℕ) (hs : S128x128.Slices ![0, h] S128x1) (hr : S128x128.Slices ![h, 0] S1x128) (hm : S1x128.Slices ![0, h] S1x1)
    (li fp : FVec F S128x128 .f32) (m : FVec F S1x128 .f32) : FVec F S128x128 .f32 :=
  maximumf (ilF h hs hm fp m)
    (broadcastTo S128x128
      (shapeCast S128x1 (multiReduction .maximumf [1] S128 (ldF h hs hr li fp) 0xFF800000#32 reduces_S128x128_S128_2 (.inl rfl) rfl)
        shapeCasts_S128_S128x1) broadcasts_S128x1_S128x128)

/-- The values beside a tile of ones. -/
def veF (vh : FVec F S128x128 .f32) : FVec F S128x256 .bf16 :=
  concatenate S128x256 1 [⟨S128x128, truncf .bf16 vh bitsLt_bf16_f32⟩, ⟨S128x128, k0_pay14⟩]
    concatenates_S128x128_S128x128_S128x256_d1

/-- A tile kept on one head's lanes. -/
def keepF (mask : IVec S128x128 1) (x : FVec F S128x128 .f32) : FVec F S128x128 .f32 :=
  select mask x (broadcast S128x128 (Scalar.ofBits .f32 0x00000000#32))

/-- One head's numerators and, beside them, its denominators. -/
def resF (mask : IVec S128x128 1) (h : ℕ) (hs : S128x128.Slices ![0, h] S128x1) (hr : S128x128.Slices ![h, 0] S1x128)
    (hm : S1x128.Slices ![0, h] S1x1) (qp kp vh li fp : FVec F S128x128 .f32) (m : FVec F S1x128 .f32)
    (cp : FVec F S128x256 .f32) : FVec F S128x256 .f32 :=
  matmul dot_S128x256_S256x256_S128x256_1_0_0_1_n_n none
    (concatenate S128x256 1
      [⟨S128x128, truncf .bf16
        (mulf (matmul dot_S128x128_S128x128_S128x128_1_1_0_0_n_n none (truncf .bf16 (keepF mask qp) bitsLt_bf16_f32)
            (truncf .bf16 kp bitsLt_bf16_f32) (constant S128x128 .f32 0x00000000#32))
          (exp (subf (ldF h hs hr li fp) (mtF h hs hr hm li fp m)))) bitsLt_bf16_f32⟩,
       ⟨S128x128, truncf .bf16 (mulf (keepF mask qp) (exp (subf (ilF h hs hm fp m) (mtF h hs hr hm li fp m)))) bitsLt_bf16_f32⟩]
      concatenates_S128x128_S128x128_S128x256_d1)
    (concatenate S256x256 0 [⟨S128x256, veF vh⟩, ⟨S128x256, truncf .bf16 cp bitsLt_bf16_f32⟩]
      concatenates_S128x256_S128x256_S256x256_d0)
    (constant S128x256 .f32 0x00000000#32)

/-- The quotient of the two halves, the denominator held away from zero. -/
def hvF (h : ℕ) (hs : S128x128.Slices ![0, h] S128x1) (hr : S128x128.Slices ![h, 0] S1x128)
    (hm : S1x128.Slices ![0, h] S1x1) (li fp : FVec F S128x128 .f32) (m : FVec F S1x128 .f32)
    (res : FVec F S128x256 .f32) : FVec F S128x128 .f32 :=
  divf (extractStridedSlice S128x128 ![0, 0] res slices_S128x256_o0_0_S128x128)
    (maximumf (absf (extractStridedSlice S128x128 ![0, 128] res slices_S128x256_o0_128_S128x128))
      (exp (subf (broadcast S128x128 (Scalar.ofBits .f32 0x00000000#32)) (mtF h hs hr hm li fp m))))

/-- Normalized over the head, weighted, and gated. -/
def gateF (oh hv : FVec F S128x128 .f32) (nw : FVec F S1x128 .f32) : FVec F S1x128x128 .bf16 :=
  shapeCast S1x128x128
    (truncf .bf16
      (mulf
        (addf (broadcast S128x128 (Scalar.ofBits .f32 0x3F000000#32))
          (mulf (broadcast S128x128 (Scalar.ofBits .f32 0x3F000000#32))
            (tanh (mulf (broadcast S128x128 (Scalar.ofBits .f32 0x3F000000#32)) oh))))
        (mulf
          (mulf hv
            (broadcastTo S128x128
              (rsqrt (addf
                (divf (shapeCast S128x1 (multiReduction .add [1] S128 (mulf hv hv) 0x00000000#32 reduces_S128x128_S128_2 (.inl rfl) rfl)
                    shapeCasts_S128_S128x1)
                  (broadcast S128x1 (Scalar.ofBits .f32 0x43000000#32)))
                (broadcast S128x1 (Scalar.ofBits .f32 0x3727C5AC#32)))) broadcasts_S128x1_S128x128))
          (broadcastTo S128x128 (shapeCast S1x128 nw shapeCasts_S1x128_S1x128) broadcasts_S1x128_S128x128)))
      bitsLt_bf16_f32) shapeCasts_S128x128_S1x128x128

/-- What one head of one chunk stores into the output. -/
def outF (mask : IVec S128x128 1) (h : ℕ) (hs : S128x128.Slices ![0, h] S128x1) (hr : S128x128.Slices ![h, 0] S1x128)
    (hm : S1x128.Slices ![0, h] S1x1) (qp kp vh oh li fp : FVec F S128x128 .f32) (m : FVec F S1x128 .f32)
    (cp : FVec F S128x256 .f32) (nw : FVec F S1x128 .f32) : FVec F S1x128x128 .bf16 :=
  gateF oh (hvF h hs hr hm li fp m (resF mask h hs hr hm qp kp vh li fp m cp)) nw

/-- What one head adds to the pair's state. -/
def addF (mask : IVec S128x128 1) (h : ℕ) (hs : S128x128.Slices ![0, h] S128x1) (hm : S1x128.Slices ![0, h] S1x1)
    (kp vh li fp : FVec F S128x128 .f32) (m : FVec F S1x128 .f32) : FVec F S128x256 .f32 :=
  mulf (broadcastTo S128x256 (extractStridedSlice S1x1 ![0, h] (slF li fp m) hm) broadcasts_S1x1_S128x256)
    (matmul dot_S128x128_S128x256_S128x256_0_0_1_1_n_n none
      (truncf .bf16
        (keepF mask
          (mulf kp (broadcastTo S128x128
            (shapeCast S128x1 (extractStridedSlice S128x1 ![0, h] (weF li fp) hs) shapeCasts_S128x1_S128x1)
            broadcasts_S128x1_S128x128))) bitsLt_bf16_f32)
      (veF vh) (constant S128x256 .f32 0x00000000#32))

/-- A pair's state weighted: rows below 64 by its first head's weight, the others by its second's. -/
def decF (h : ℕ) (h1 : ℕ) (hm : S1x128.Slices ![0, h] S1x1) (hm1 : S1x128.Slices ![0, h1] S1x1)
    (li fp : FVec F S128x128 .f32) (m : FVec F S1x128 .f32) (cp : FVec F S128x256 .f32) : FVec F S128x256 .f32 :=
  mulf cp (broadcastTo S128x256
    (select (cmpi .slt (iota .tc S128x1 32 [0] iota_S128x1_d0_w32) (broadcast S128x1 64#32))
      (broadcastTo S128x1 (shapeCast S1x1 (extractStridedSlice S1x1 ![0, h] (spF li fp m) hm) shapeCasts_S1x1_S1x1) broadcasts_S1x1_S128x1)
      (broadcastTo S128x1 (shapeCast S1x1 (extractStridedSlice S1x1 ![0, h1] (spF li fp m) hm1) shapeCasts_S1x1_S1x1) broadcasts_S1x1_S128x1))
    broadcasts_S128x1_S128x256)

/-- The pair's state after the chunk, as it is stored. -/
def stF (h h1 : ℕ) (hs : S128x128.Slices ![0, h] S128x1) (hs1 : S128x128.Slices ![0, h1] S128x1)
    (hm : S1x128.Slices ![0, h] S1x1) (hm1 : S1x128.Slices ![0, h1] S1x1)
    (kp vh vh1 li fp : FVec F S128x128 .f32) (m : FVec F S1x128 .f32) (cp : FVec F S128x256 .f32) :
    FVec F S1x1x128x256 .f32 :=
  shapeCast S1x1x128x256
    (addf (addf (decF h h1 hm hm1 li fp m cp) (addF (cmpi .slt laneF (broadcast S128x128 64#32)) h hs hm kp vh li fp m))
      (addF (cmpi .sge laneF (broadcast S128x128 64#32)) h1 hs1 hm1 kp vh1 li fp m)) shapeCasts_S128x256_S1x1x128x256

end Cert.Mlstm

end
-- ==== Proof.Mlstm.KPoint.lean ====
/- One grid point of the kernel: what its four chunks (two sequences, two chunks each) store, over the projections of the point's
   rows and the state loaded before them. -/
module

public import proofs.«01_k».proof.Proof.Mlstm.KOps
public import Idealize.ShloMosaic.Lib.Pipeline.ReadBack
public import Idealize.ShloMosaic.Lib.Pointwise

@[expose] public section

set_option maxRecDepth 16384

noncomputable section

namespace Cert.Mlstm

open Cert.KernelIdeal Cert.KernelIdeal.Gen Idealize.ShloMosaic

variable {F : FTy → Type} [FloatOps F]

theorem sl_col : ∀ h : Fin 8, S128x128.Slices ![0, h.val] S128x1 := by decide
theorem sl_row : ∀ h : Fin 8, S128x128.Slices ![h.val, 0] S1x128 := by decide
theorem sl_one : ∀ h : Fin 8, S1x128.Slices ![0, h.val] S1x1 := by decide
theorem sl_pair : ∀ (s ci : Fin 2) (p : Fin 4), S512x512.Slices ![256 * s.val + 128 * ci.val, 128 * p.val] S128x128 := by decide
theorem sl_head : ∀ (s ci : Fin 2) (h : Fin 8), S512x1024.Slices ![256 * s.val + 128 * ci.val, 128 * h.val] S128x128 := by decide
theorem sl_gate : ∀ (s ci : Fin 2) (g : Fin 2), S512x256.Slices ![256 * s.val + 128 * ci.val, 128 * g.val] S128x128 := by decide

/-- The pair a head belongs to. -/
abbrev pairOf (h : Fin 8) : Fin 4 := ⟨h.val / 2, by omega⟩
/-- A pair's first head. -/
abbrev headA (p : Fin 4) : Fin 8 := ⟨2 * p.val, by omega⟩
/-- A pair's second head. -/
abbrev headB (p : Fin 4) : Fin 8 := ⟨2 * p.val + 1, by omega⟩

/-- A head's lanes in its pair's 128. -/
def maskF (h : Fin 8) : IVec S128x128 1 :=
  bif h.val % 2 == 0 then cmpi .slt laneF (broadcast S128x128 64#32) else cmpi .sge laneF (broadcast S128x128 64#32)

/-- The five projections of a point's 512 rows, and the norm's weights. -/
structure Proj (F : FTy → Type) where
  q : FVec F S512x512 .f32
  k : FVec F S512x512 .f32
  v : FVec F S512x1024 .f32
  o : FVec F S512x1024 .f32
  g : FVec F S512x256 .f32
  w : Fin 8 → FVec F S1x128 .f32

namespace Proj

variable (P : Proj F) (s ci : Fin 2)

def qs (p : Fin 4) : FVec F S128x128 .f32 :=
  extractStridedSlice S128x128 ![256 * s.val + 128 * ci.val, 128 * p.val] P.q (sl_pair s ci p)
def ks (p : Fin 4) : FVec F S128x128 .f32 :=
  extractStridedSlice S128x128 ![256 * s.val + 128 * ci.val, 128 * p.val] P.k (sl_pair s ci p)
def vs (h : Fin 8) : FVec F S128x128 .f32 :=
  extractStridedSlice S128x128 ![256 * s.val + 128 * ci.val, 128 * h.val] P.v (sl_head s ci h)
def os (h : Fin 8) : FVec F S128x128 .f32 :=
  extractStridedSlice S128x128 ![256 * s.val + 128 * ci.val, 128 * h.val] P.o (sl_head s ci h)
def li : FVec F S128x128 .f32 := extractStridedSlice S128x128 ![256 * s.val + 128 * ci.val, 128 * (0 : Fin 2).val] P.g (sl_gate s ci 0)
def fp : FVec F S128x128 .f32 := extractStridedSlice S128x128 ![256 * s.val + 128 * ci.val, 128 * (1 : Fin 2).val] P.g (sl_gate s ci 1)

/-- What head `h` of chunk `ci` of sequence `s` stores, over the stabilizer and the pair's state loaded. -/
def out (h : Fin 8) (m : FVec F S1x1x128 .f32) (c : FVec F S1x1x128x256 .f32) : FVec F S1x128x128 .bf16 :=
  outF (maskF h) h.val (sl_col h) (sl_row h) (sl_one h) (P.qs s ci (pairOf h)) (P.ks s ci (pairOf h)) (P.vs s ci h) (P.os s ci h)
    (P.li s ci) (P.fp s ci) (shapeCast S1x128 m shapeCasts_S1x1x128_S1x128)
    (shapeCast S128x256 c shapeCasts_S1x1x128x256_S128x256) (P.w h)

/-- What the chunk leaves of pair `p`'s state. -/
def st (p : Fin 4) (m : FVec F S1x1x128 .f32) (c : FVec F S1x1x128x256 .f32) : FVec F S1x1x128x256 .f32 :=
  stF (headA p).val (headB p).val (sl_col (headA p)) (sl_col (headB p)) (sl_one (headA p)) (sl_one (headB p))
    (P.ks s ci p) (P.vs s ci (headA p)) (P.vs s ci (headB p)) (P.li s ci) (P.fp s ci)
    (shapeCast S1x128 m shapeCasts_S1x1x128_S1x128) (shapeCast S128x256 c shapeCasts_S1x1x128x256_S128x256)

/-- What the chunk leaves of the stabilizers. -/
def ms (m : FVec F S1x1x128 .f32) : FVec F S1x1x128 .f32 :=
  msF (P.li s ci) (P.fp s ci) (shapeCast S1x128 m shapeCasts_S1x1x128_S1x128)

end Proj

theorem sl_nw : ∀ (h : Fin 8) (a : Fin S1x1024.rank), ![0, 128 * h.val] a + S1x128.size a ≤ S1x1024.size a := by decide
theorem sl_ms : ∀ (s : Fin 2) (a : Fin S2x1x128.rank), ![s.val, 0, 0] a + S1x1x128.size a ≤ S2x1x128.size a := by decide
theorem sl_cs : ∀ (s : Fin 2) (p : Fin 4) (a : Fin S2x4x128x256.rank), ![s.val, p.val, 0, 0] a + S1x1x128x256.size a ≤ S2x4x128x256.size a := by
  decide

/-- The projections as the point computes them from its four blocks. -/
def projOf (x0 : Vec F S2x256x1024 .f32) (wq wk : Vec F S1024x512 .bf16) (wv wo : Vec F S1024x1024 .bf16) (wg : Vec F S1024x256 .bf16)
    (x2 : Vec F S1x256 .f32) (w : Fin 8 → Vec F S1x128 .f32) : Proj F where
  q := k0_pay6 x0 wq
  k := k0_pay7 x0 wk
  v := k0_pay8 x0 wv
  o := k0_pay9 x0 wo
  g := k0_pay10 x0 wg x2
  w := w

/-- The stabilizers a chunk loads: the point's own first, then what the first chunk stored. -/
def mOf (P : Proj F) (m : Fin 2 → FVec F S1x1x128 .f32) (s : Fin 2) (ci : Fin 2) : FVec F S1x1x128 .f32 :=
  match ci with
  | 0 => m s
  | 1 => P.ms s 0 (m s)

/-- The pair's state a chunk loads. -/
def cOf (P : Proj F) (m : Fin 2 → FVec F S1x1x128 .f32) (c : Fin 2 → Fin 4 → FVec F S1x1x128x256 .f32) (s : Fin 2) (ci : Fin 2) (p : Fin 4) :
    FVec F S1x1x128x256 .f32 :=
  match ci with
  | 0 => c s p
  | 1 => P.st s 0 p (m s) (c s p)

/-- The point's output block, each index from its sequence, chunk and head. -/
def outG (P : Proj F) (m : Fin 2 → Fin 2 → FVec F S1x1x128 .f32) (c : Fin 2 → Fin 2 → Fin 4 → FVec F S1x1x128x256 .f32) :
    Vec F S2x256x1024 .bf16 := fun y =>
  have h0 : (y 0).val < 2 := (y 0).isLt
  have h1 : (y 1).val < 256 := (y 1).isLt
  have h2 : (y 2).val < 1024 := (y 2).isLt
  P.out ⟨(y 0).val, h0⟩ ⟨(y 1).val / 128, by omega⟩ ⟨(y 2).val / 128, by omega⟩
    (m ⟨(y 0).val, h0⟩ ⟨(y 1).val / 128, by omega⟩)
    (c ⟨(y 0).val, h0⟩ ⟨(y 1).val / 128, by omega⟩ (pairOf ⟨(y 2).val / 128, by omega⟩))
    (ix3 0 ⟨(y 1).val % 128, Nat.mod_lt _ (by decide)⟩ ⟨(y 2).val % 128, Nat.mod_lt _ (by decide)⟩)

theorem outG_eq (P : Proj F) (m : Fin 2 → Fin 2 → FVec F S1x1x128 .f32) (c : Fin 2 → Fin 2 → Fin 4 → FVec F S1x1x128x256 .f32)
    (s ci : Fin 2) (h : Fin 8) (y : S2x256x1024.Idx) (z : S1x128x128.Idx) (h0 : (y 0).val = s.val + 1 * (z 0).val)
    (h1 : (y 1).val = 128 * ci.val + 1 * (z 1).val) (h2 : (y 2).val = 128 * h.val + 1 * (z 2).val) :
    P.out s ci h (m s ci) (c s ci (pairOf h)) z = outG P m c y := by
  have z0 : (z 0).val < 1 := (z 0).isLt
  have z1 : (z 1).val < 128 := (z 1).isLt
  have z2 : (z 2).val < 128 := (z 2).isLt
  have e0 : (⟨(y 0).val, (y 0).isLt⟩ : Fin 2) = s := Fin.ext (by simp only; omega)
  have e1 : (⟨(y 1).val / 128, by have := (y 1).isLt; simp at this; omega⟩ : Fin 2) = ci := Fin.ext (by simp only; omega)
  have e2 : (⟨(y 2).val / 128, by have := (y 2).isLt; simp at this; omega⟩ : Fin 8) = h := Fin.ext (by simp only; omega)
  have e3 : (ix3 0 ⟨(y 1).val % 128, Nat.mod_lt _ (by decide)⟩ ⟨(y 2).val % 128, Nat.mod_lt _ (by decide)⟩ : S1x128x128.Idx) = z := by
    funext a
    apply Fin.ext
    match a with
    | ⟨0, _⟩ => show 0 = (z 0).val; omega
    | ⟨1, _⟩ => show (y 1).val % 128 = (z 1).val; omega
    | ⟨2, _⟩ => show (y 2).val % 128 = (z 2).val; omega
  unfold outG
  dsimp only
  rw [e0, e1, e2, e3]

/-- The state after the point. -/
def stG (P : Proj F) (m : Fin 2 → Fin 2 → FVec F S1x1x128 .f32) (c : Fin 2 → Fin 2 → Fin 4 → FVec F S1x1x128x256 .f32) :
    Vec F S2x4x128x256 .f32 := fun y =>
  P.st (y 0) 1 (y 1) (m (y 0) 1) (c (y 0) 1 (y 1)) (ix4 0 0 (y 2) (y 3))

theorem stG_eq (P : Proj F) (m : Fin 2 → Fin 2 → FVec F S1x1x128 .f32) (c : Fin 2 → Fin 2 → Fin 4 → FVec F S1x1x128x256 .f32)
    (s : Fin 2) (p : Fin 4) (y : S2x4x128x256.Idx) (z : S1x1x128x256.Idx) (h0 : (y 0).val = s.val + 1 * (z 0).val)
    (h1 : (y 1).val = p.val + 1 * (z 1).val) (h2 : (y 2).val = 0 + 1 * (z 2).val) (h3 : (y 3).val = 0 + 1 * (z 3).val) :
    P.st s 1 p (m s 1) (c s 1 p) z = stG P m c y := by
  have z0 : (z 0).val < 1 := (z 0).isLt
  have z1 : (z 1).val < 1 := (z 1).isLt
  have e0 : (y 0 : Fin 2) = s := Fin.ext (by omega)
  have e1 : (y 1 : Fin 4) = p := Fin.ext (by omega)
  have e3 : (ix4 0 0 (y 2) (y 3) : S1x1x128x256.Idx) = z := by
    funext a
    apply Fin.ext
    match a with
    | ⟨0, _⟩ => show 0 = (z 0).val; omega
    | ⟨1, _⟩ => show 0 = (z 1).val; omega
    | ⟨2, _⟩ => show (y 2).val = (z 2).val; omega
    | ⟨3, _⟩ => show (y 3).val = (z 3).val; omega
  unfold stG
  rw [e3]
  subst e0 e1
  rfl

/-- The stabilizers after the point. -/
def msG (P : Proj F) (m : Fin 2 → Fin 2 → FVec F S1x1x128 .f32) : Vec F S2x1x128 .f32 := fun y =>
  P.ms (y 0) 1 (m (y 0) 1) (ix3 0 0 (y 2))

theorem msG_eq (P : Proj F) (m : Fin 2 → Fin 2 → FVec F S1x1x128 .f32)
    (s : Fin 2) (y : S2x1x128.Idx) (z : S1x1x128.Idx) (h0 : (y 0).val = s.val + 1 * (z 0).val) (h2 : (y 2).val = 0 + 1 * (z 2).val) :
    P.ms s 1 (m s 1) z = msG P m y := by
  have z0 : (z 0).val < 1 := (z 0).isLt
  have z1 : (z 1).val < 1 := (z 1).isLt
  have e0 : (y 0 : Fin 2) = s := Fin.ext (by omega)
  have e3 : (ix3 0 0 (y 2) : S1x1x128.Idx) = z := by
    funext a
    apply Fin.ext
    match a with
    | ⟨0, _⟩ => show 0 = (z 0).val; omega
    | ⟨1, _⟩ => show 0 = (z 1).val; omega
    | ⟨2, _⟩ => show (y 2).val = (z 2).val; omega
  unfold msG
  rw [e3]
  subst e0
  rfl

/-- The projections over whole blocks. -/
def projV (x0 : Vec F S2x256x1024 .f32) (x1 : Vec F S1024x3328 .bf16) (x2 : Vec F S1x256 .f32) (x3 : Vec F S1x1024 .f32) : Proj F :=
  projOf (View.ld x0 (Rect.unit (s := S2x256x1024) ![0, 0, 0] S2x256x1024.size inb_S2x256x1024_S2x256x1024_0_0_0))
    (View.ld x1 (Rect.unit (s := S1024x3328) ![0, 0] S1024x512.size inb_S1024x3328_S1024x512_0_0))
    (View.ld x1 (Rect.unit (s := S1024x3328) ![0, 512] S1024x512.size inb_S1024x3328_S1024x512_0_512))
    (View.ld x1 (Rect.unit (s := S1024x3328) ![0, 1024] S1024x1024.size inb_S1024x3328_S1024x1024_0_1024))
    (View.ld x1 (Rect.unit (s := S1024x3328) ![0, 2048] S1024x1024.size inb_S1024x3328_S1024x1024_0_2048))
    (View.ld x1 (Rect.unit (s := S1024x3328) ![0, 3072] S1024x256.size inb_S1024x3328_S1024x256_0_3072))
    (View.ld x2 (Rect.unit (s := S1x256) ![0, 0] S1x256.size inb_S1x256_S1x256_0_0))
    (fun h => View.ld x3 (Rect.unit (s := S1x1024) ![0, 128 * h.val] S1x128.size (sl_nw h)))

/-- One sequence's stabilizers out of the carried block. -/
def mAt (m : Vec F S2x1x128 .f32) (s : Fin 2) : FVec F S1x1x128 .f32 :=
  View.ld m (Rect.unit (s := S2x1x128) ![s.val, 0, 0] S1x1x128.size (sl_ms s))

/-- One sequence's state of one pair out of the carried block. -/
def cAt (c : Vec F S2x4x128x256 .f32) (s : Fin 2) (p : Fin 4) : FVec F S1x1x128x256 .f32 :=
  View.ld c (Rect.unit (s := S2x4x128x256) ![s.val, p.val, 0, 0] S1x1x128x256.size (sl_cs s p))

/-- Stores that are blocks of `G` and cover everything leave `G`, over any earlier stores. -/
theorem canon_take {Val : EltTy → Type} [∀ e, Nonempty (Val e)] {S : Shape} {e : EltTy} (G : S.Idx → Val e) (n : ℕ) (L : List (View.Piece Val S e))
    (h : View.PiecesOf G (L.take n)) (hc : ∀ y, ∃ p ∈ L.take n, y ∈ p.1.set) : View.canon L = G := by
  funext y
  rw [← L.take_append_drop n]
  exact View.canon_append_of_piecesOf G _ _ h y (hc y)

end Cert.Mlstm

end
-- ==== Proof.Mlstm.Spec.lean ====
/- The layer's mathematics in extended reals: one head of one 128-row chunk, from its queries, keys, values and gates and the state
   before it. -/
module

public import Idealize.ShloMosaic.Lib.Pointwise

@[expose] public section

noncomputable section

namespace Cert.Mlstm.Spec

open Idealize.ShloMosaic

/-- The logarithm of a gate: the logistic function's logarithm. -/
def lfOf (x : EReal) : EReal := min x 0 - Ideal.log (1 + Ideal.exp (0 - max x (-x)))

/-- The running sum of the forget gate's logarithm. -/
def fc (lf : Fin 128 → EReal) (t : Fin 128) : EReal := ∑ s, if s ≤ t then lf s else 0

/-- The input gate less the running sum. -/
def gk (li lf : Fin 128 → EReal) (s : Fin 128) : EReal := li s - fc lf s

/-- The chunk's total. -/
def ft (lf : Fin 128 → EReal) : EReal := fc lf 127

/-- The chunk's own stabilizer. -/
def ml (li lf : Fin 128 → EReal) : EReal := Finset.univ.fold max ⊥ fun s => ft lf + gk li lf s

/-- The stabilizer after the chunk. -/
def mn (li lf : Fin 128 → EReal) (m : EReal) : EReal := max (ft lf + m) (ml li lf)

/-- The weight of the state before. -/
def sp (li lf : Fin 128 → EReal) (m : EReal) : EReal := Ideal.exp (ft lf + m - mn li lf m)

/-- The weight of the chunk's contribution. -/
def sl (li lf : Fin 128 → EReal) (m : EReal) : EReal := Ideal.exp (ml li lf - mn li lf m)

/-- The weight of a row's key in the contribution. -/
def we (li lf : Fin 128 → EReal) (s : Fin 128) : EReal := Ideal.exp (gk li lf s + (ft lf - ml li lf))

/-- The logarithm of the weight of row `s` for row `t`. -/
def ld (li lf : Fin 128 → EReal) (t s : Fin 128) : EReal := if s ≤ t then fc lf t + gk li lf s else ⊥

/-- The logarithm of the state's weight for row `t`. -/
def il (lf : Fin 128 → EReal) (m : EReal) (t : Fin 128) : EReal := fc lf t + m

/-- The stabilizer of row `t`. -/
def mt (li lf : Fin 128 → EReal) (m : EReal) (t : Fin 128) : EReal :=
  max (il lf m t) (Finset.univ.fold max ⊥ fun s => ld li lf t s)

/-- The state's weight for row `t`. -/
def iw (li lf : Fin 128 → EReal) (m : EReal) (t : Fin 128) : EReal := Ideal.exp (il lf m t - mt li lf m t)

/-- The weight of row `s` for row `t`. -/
def sc (q k : Fin 128 → Fin 64 → EReal) (li lf : Fin 128 → EReal) (m : EReal) (t s : Fin 128) : EReal :=
  (∑ κ, q t κ * k s κ) * Ideal.exp (ld li lf t s - mt li lf m t)

/-- The numerator. -/
def num (q k : Fin 128 → Fin 64 → EReal) (v : Fin 128 → Fin 128 → EReal) (li lf : Fin 128 → EReal) (m : EReal)
    (C : Fin 64 → Fin 128 → EReal) (t d : Fin 128) : EReal :=
  (∑ s, sc q k li lf m t s * v s d) + ∑ κ, q t κ * iw li lf m t * C κ d

/-- The denominator before it is held away from zero. -/
def den (q k : Fin 128 → Fin 64 → EReal) (li lf : Fin 128 → EReal) (m : EReal) (N : Fin 64 → EReal) (t : Fin 128) : EReal :=
  (∑ s, sc q k li lf m t s) + ∑ κ, q t κ * iw li lf m t * N κ

/-- The head's value. -/
def hv (q k : Fin 128 → Fin 64 → EReal) (v : Fin 128 → Fin 128 → EReal) (li lf : Fin 128 → EReal) (m : EReal)
    (C : Fin 64 → Fin 128 → EReal) (N : Fin 64 → EReal) (t d : Fin 128) : EReal :=
  Ideal.div (num q k v li lf m C t d)
    (max (max (den q k li lf m N t) (-den q k li lf m N t)) (Ideal.exp (0 - mt li lf m t)))

/-- The head's value normalized, weighted by `w` and gated by `o`. -/
def gated (o w : EReal) (h : Fin 128 → EReal) (d : Fin 128) : EReal :=
  Ideal.logistic o *
    (h d * Ideal.rsqrt (Ideal.div (∑ e, h e * h e) (Ideal.ofBits .f32 0x43000000#32) + Ideal.ofBits .f32 0x3727C5AC#32) * w)

/-- The state after the chunk. -/
def stC (k : Fin 128 → Fin 64 → EReal) (v : Fin 128 → Fin 128 → EReal) (li lf : Fin 128 → EReal) (m : EReal)
    (C : Fin 64 → Fin 128 → EReal) (κ : Fin 64) (d : Fin 128) : EReal :=
  C κ d * sp li lf m + sl li lf m * ∑ s, k s κ * we li lf s * v s d

/-- The normalizer's state after the chunk. -/
def stN (k : Fin 128 → Fin 64 → EReal) (li lf : Fin 128 → EReal) (m : EReal) (N : Fin 64 → EReal) (κ : Fin 64) : EReal :=
  N κ * sp li lf m + sl li lf m * ∑ s, k s κ * we li lf s

/-! ## The layer from its arguments -/

/-- The arguments: the rows, the input projection's weights, the gates' biases and the norm's weights. -/
structure Inp where
  x : Fin 16 → Fin 2048 → Fin 1024 → EReal
  w : Fin 1024 → Fin 8224 → EReal
  ib : Fin 8 → EReal
  fb : Fin 8 → EReal
  nw : Fin 1024 → EReal

/-- A head's state between chunks. -/
structure St where
  m : EReal
  C : Fin 64 → Fin 128 → EReal
  N : Fin 64 → EReal

/-- The state before the first chunk. -/
def St.init : St := ⟨⊥, fun _ _ => 0, fun _ => 0⟩

/-- Row `t` of chunk `n`. -/
abbrev row (n : Fin 16) (t : Fin 128) : Fin 2048 := ⟨128 * n.val + t.val, by omega⟩

namespace Inp

variable (I : Inp) (b : Fin 16) (h : Fin 8) (n : Fin 16)

/-- The input projection. -/
def pj (t : Fin 2048) (c : Fin 8224) : EReal := ∑ e, I.x b t e * I.w e c

def q (t : Fin 128) (κ : Fin 64) : EReal :=
  I.pj b (row n t) ⟨3088 + (64 * h.val + κ.val), by omega⟩ * Ideal.ofBits .f32 0x3E000000#32
def k (t : Fin 128) (κ : Fin 64) : EReal := I.pj b (row n t) ⟨3600 + (64 * h.val + κ.val), by omega⟩
def v (t : Fin 128) (d : Fin 128) : EReal := I.pj b (row n t) ⟨4112 + (128 * h.val + d.val), by omega⟩
def o (t : Fin 128) (d : Fin 128) : EReal := I.pj b (row n t) ⟨5136 + (128 * h.val + d.val), by omega⟩
def li (t : Fin 128) : EReal := I.pj b (row n t) ⟨6160 + h.val, by omega⟩ + I.ib h
def lf (t : Fin 128) : EReal := lfOf (I.pj b (row n t) ⟨6168 + h.val, by omega⟩ + I.fb h)

/-- One chunk's change of the state. -/
def step (S : St) : St where
  m := mn (I.li b h n) (I.lf b h n) S.m
  C := stC (I.k b h n) (I.v b h n) (I.li b h n) (I.lf b h n) S.m S.C
  N := stN (I.k b h n) (I.li b h n) (I.lf b h n) S.m S.N

/-- The state before chunk `n`. -/
def st : ℕ → St
  | 0 => St.init
  | n + 1 => if hn : n < 16 then I.step b h ⟨n, hn⟩ (st n) else st n

theorem st_succ (n : Fin 16) : I.st b h (n.val + 1) = I.step b h n (I.st b h n.val) := by
  rw [st, dif_pos n.isLt]

/-- The layer's output. -/
def out (t : Fin 128) (d : Fin 128) : EReal :=
  gated (I.o b h n t d) (I.nw ⟨128 * h.val + d.val, by omega⟩)
    (hv (I.q b h n) (I.k b h n) (I.v b h n) (I.li b h n) (I.lf b h n) (I.st b h n.val).m (I.st b h n.val).C (I.st b h n.val).N t) d

end Inp

end Cert.Mlstm.Spec

end
-- ==== Proof.Mlstm.KVal.lean ====
/- Entries of the kernel's tiles in extended reals, against the layer's mathematics. -/
module

public import proofs.«01_k».proof.Proof.Mlstm.KPoint
public import proofs.«01_k».proof.Proof.Mlstm.Spec
public import Idealize.ShloMosaic.Lib.WordCmp

@[expose] public section

set_option maxRecDepth 16384

noncomputable section

namespace Cert.Mlstm

open Cert.KernelIdeal Cert.KernelIdeal.Gen Idealize.ShloMosaic
open Idealize.ShloMosaic.WordCmp (cmpi_slt_ofNat cmpi_sge_ofNat)

/-- A head's lane among the gates' 128. -/
abbrev lane (h : Fin 8) : Fin 128 := ⟨h.val, by omega⟩
/-- A head's entry among its pair's 128. -/
abbrev half (h : Fin 8) (κ : Fin 64) : Fin 128 := ⟨64 * (h.val % 2) + κ.val, by omega⟩
/-- A value's lane among the values and the ones beside them. -/
abbrev vlane (d : Fin 128) : Fin 256 := ⟨d.val, by omega⟩
/-- A one's lane among them. -/
abbrev nlane (d : Fin 128) : Fin 256 := ⟨128 + d.val, by omega⟩

theorem lfOf_ne_top (x : EReal) : Spec.lfOf x ≠ ⊤ := by
  unfold Spec.lfOf
  induction x using EReal.rec with
  | bot => simp
  | top => simp [← EReal.coe_one]
  | coe r =>
    have h : max (r : EReal) (-(r : EReal)) = ((max r (-r) : ℝ) : EReal) := by
      rw [← EReal.coe_neg, EReal.coe_strictMono.monotone.map_max]
    have h0 : min (r : EReal) 0 = ((min r 0 : ℝ) : EReal) := by
      rw [← EReal.coe_zero, EReal.coe_strictMono.monotone.map_min]
    rw [h, h0, zero_sub, ← EReal.coe_neg, Ideal.exp_coe, ← EReal.coe_one, ← EReal.coe_add, Ideal.log_coe,
      if_neg (not_le.mpr (by positivity)), ← EReal.coe_sub]
    exact EReal.coe_ne_top _

theorem parts (x : EReal) (h : x ≠ ⊤) : x + (x - x) + (x - x - (x - x)) = x := by
  induction x using EReal.rec with
  | bot => simp
  | top => exact absurd rfl h
  | coe r => rw [← EReal.coe_sub, sub_self]; simp

theorem sel_ofBool (p : Prop) [Decidable p] (a b : EReal) : Scalar.select (BitVec.ofBool (decide p)) a b = if p then a else b := by
  by_cases h : p
  · rw [if_pos h, decide_eq_true h]; rfl
  · rw [if_neg h, decide_eq_false h]; rfl

theorem lfF_apply (fp : FVec Ideal S128x128 .f32) (t l : Fin 128) :
    lfF fp (ix2 t l) = if l.val < 8 then Spec.lfOf (fp (ix2 t l)) else 0 := by
  pointwise [lfF, k0_pay13, laneF]
  rw [cmpi_slt_ofNat (by omega) (by decide), sel_ofBool, Ideal.absf_def]
  rfl

theorem tri_apply (t s : Fin 128) (a b : EReal) :
    Scalar.select (IntOp.cmpi CmpIPredicate.sge (BitVec.ofNat 32 ↑t) (BitVec.ofNat 32 ↑s)) a b = if s ≤ t then a else b := by
  rw [cmpi_sge_ofNat (by omega) (by omega), sel_ofBool]
  rfl

theorem ofBits_bot : Ideal.ofBits .f32 0xFF800000#32 = ⊥ := by simp [Ideal.ofBits, Ideal.ieee]

theorem ofBits_half : Ideal.ofBits .f32 0x3F000000#32 = ((1 / 2 : ℝ) : EReal) := by
  simp [Ideal.ofBits, Ideal.ieee, -EReal.coe_mul]; norm_num

theorem cumF_apply (x : FVec Ideal S128x128 .f32) (t l : Fin 128) (hx : ∀ s, x (ix2 s l) ≠ ⊤) :
    cumF x (ix2 t l) = Spec.fc (fun s => x (ix2 s l)) t := by
  pointwise [cumF, k0_pay12, k0_pay11]
  rw [← Finset.sum_add_distrib, ← Finset.sum_add_distrib, Spec.fc]
  refine Finset.sum_congr rfl fun s _ => ?_
  simp only [tri_apply]
  split
  · exact parts _ (hx s)
  · simp

theorem lt_select (r : Fin 128) (a b : EReal) :
    Scalar.select (IntOp.cmpi CmpIPredicate.slt (BitVec.ofNat 32 ↑r) 64#32) a b = if r.val < 64 then a else b := by
  rw [cmpi_slt_ofNat (by omega) (by decide), sel_ofBool]

theorem ge_select (r : Fin 128) (a b : EReal) :
    Scalar.select (IntOp.cmpi CmpIPredicate.sge (BitVec.ofNat 32 ↑r) 64#32) a b = if r.val < 64 then b else a := by
  rw [cmpi_sge_ofNat (by omega) (by decide), sel_ofBool, ← ite_not]
  exact if_congr (by omega) rfl rfl

theorem lt_mask (x r : Fin 128) (a b : EReal) :
    Scalar.select ((cmpi .slt laneF (broadcast S128x128 64#32) : IVec S128x128 1) (ix2 x r)) a b = if r.val < 64 then a else b := by
  pointwise [laneF]
  exact lt_select r a b

theorem ge_mask (x r : Fin 128) (a b : EReal) :
    Scalar.select ((cmpi .sge laneF (broadcast S128x128 64#32) : IVec S128x128 1) (ix2 x r)) a b = if r.val < 64 then b else a := by
  pointwise [laneF]
  exact ge_select r a b

section Head

variable (h : Fin 8) (li fp : FVec Ideal S128x128 .f32) (m : FVec Ideal S1x128 .f32)

/-- The forget gate's logarithm of a head. -/
abbrev lfH : Fin 128 → EReal := fun s => Spec.lfOf (fp (ix2 s (lane h)))
/-- The input gate's logarithm of a head. -/
abbrev liH : Fin 128 → EReal := fun s => li (ix2 s (lane h))

theorem fcF_apply (t : Fin 128) : fcF fp (ix2 t (lane h)) = Spec.fc (lfH h fp) t := by
  have e : ∀ s, lfF fp (ix2 s (lane h)) = Spec.lfOf (fp (ix2 s (lane h))) := fun s => by
    rw [lfF_apply, if_pos h.isLt]
  rw [fcF, cumF_apply _ _ _ fun s => by rw [e]; exact lfOf_ne_top _]
  simp only [e]

theorem gkF_apply (s : Fin 128) : gkF li fp (ix2 s (lane h)) = Spec.gk (liH h li) (lfH h fp) s := by
  pointwise [gkF]
  rw [fcF_apply]; rfl

theorem ftF_apply : ftF fp (ix2 0 (lane h)) = Spec.ft (lfH h fp) := by
  pointwise [ftF]
  exact fcF_apply h fp 127

theorem mlF_apply : mlF li fp (ix2 0 (lane h)) = Spec.ml (liH h li) (lfH h fp) := by
  pointwise [mlF]
  simp only [ftF_apply, gkF_apply, ofBits_bot]
  rfl

theorem mnF_apply : mnF li fp m (ix2 0 (lane h)) = Spec.mn (liH h li) (lfH h fp) (m (ix2 0 (lane h))) := by
  pointwise [mnF]
  simp only [ftF_apply, mlF_apply]
  rfl

theorem spF_apply : spF li fp m (ix2 0 (lane h)) = Spec.sp (liH h li) (lfH h fp) (m (ix2 0 (lane h))) := by
  pointwise [spF]
  simp only [ftF_apply, mnF_apply]
  rfl

theorem slF_apply : slF li fp m (ix2 0 (lane h)) = Spec.sl (liH h li) (lfH h fp) (m (ix2 0 (lane h))) := by
  pointwise [slF]
  simp only [mlF_apply, mnF_apply]
  rfl

theorem weF_apply (s : Fin 128) : weF li fp (ix2 s (lane h)) = Spec.we (liH h li) (lfH h fp) s := by
  pointwise [weF]
  simp only [mlF_apply, ftF_apply, gkF_apply]
  rfl

theorem msF_apply : msF li fp m (ix3 0 0 (lane h)) = Spec.mn (liH h li) (lfH h fp) (m (ix2 0 (lane h))) := by
  rw [← mnF_apply]
  pointwise [msF]
  rw [cmpi_slt_ofNat (by omega) (by decide), sel_ofBool, if_pos h.isLt]

theorem ldF_apply (t s : Fin 128) :
    ldF h.val (sl_col h) (sl_row h) li fp (ix2 t s) = Spec.ld (liH h li) (lfH h fp) t s := by
  pointwise [ldF, fcolF, gtF, k0_pay11]
  simp only [tri_apply, fcF_apply, gkF_apply, ofBits_bot]
  rfl

theorem ilF_apply (t s : Fin 128) :
    ilF h.val (sl_col h) (sl_one h) fp m (ix2 t s) = Spec.il (lfH h fp) (m (ix2 0 (lane h))) t := by
  pointwise [ilF, fcolF]
  simp only [fcF_apply]
  rfl

theorem mtF_apply (t s : Fin 128) :
    mtF h.val (sl_col h) (sl_row h) (sl_one h) li fp m (ix2 t s) = Spec.mt (liH h li) (lfH h fp) (m (ix2 0 (lane h))) t := by
  pointwise [mtF]
  simp only [ilF_apply, ldF_apply, ofBits_bot]
  rfl

theorem maskF_apply (t x : Fin 128) (a b : EReal) :
    Scalar.select (maskF h (ix2 t x)) a b = if x.val / 64 = h.val % 2 then a else b := by
  rcases Nat.mod_two_eq_zero_or_one h.val with e | e
  · rw [show maskF h = cmpi .slt laneF (broadcast S128x128 64#32) by rw [maskF, e]; rfl, lt_mask, e]
    exact if_congr (by omega) rfl rfl
  · rw [show maskF h = cmpi .sge laneF (broadcast S128x128 64#32) by rw [maskF, e]; rfl, ge_mask, e, ← ite_not]
    exact if_congr (by omega) rfl rfl

theorem sum_half (f : Fin 128 → EReal) :
    ∑ x : Fin 128, (if x.val / 64 = h.val % 2 then f x else 0) = ∑ κ, f (half h κ) := by
  rw [← Finset.sum_filter]
  symm
  refine Finset.sum_bij (fun κ _ => half h κ) (fun κ _ => ?_) (fun a _ b _ e => ?_) (fun x hx => ?_) (fun _ _ => rfl)
  · simp only [Finset.mem_filter, Finset.mem_univ, true_and]
    omega
  · have := congrArg Fin.val e
    exact Fin.ext (by simp only at this; omega)
  · simp only [Finset.mem_filter, Finset.mem_univ, true_and] at hx
    exact ⟨⟨x.val % 64, Nat.mod_lt _ (by decide)⟩, Finset.mem_univ _, Fin.ext (by simp only; omega)⟩

theorem sum_mask (t : Fin 128) (f : Fin 128 → EReal) :
    ∑ x, Scalar.select (maskF h (ix2 t x)) (f x) 0 = ∑ κ, f (half h κ) := by
  simp only [maskF_apply]
  exact sum_half h f

variable (qp kp vh : FVec Ideal S128x128 .f32) (cp : FVec Ideal S128x256 .f32)

/-- A head's rows out of a pair's tile. -/
abbrev hd (x : FVec Ideal S128x128 .f32) : Fin 128 → Fin 64 → EReal := fun t κ => x (ix2 t (half h κ))
/-- A head's values. -/
abbrev vd (x : FVec Ideal S128x128 .f32) : Fin 128 → Fin 128 → EReal := fun t d => x (ix2 t d)
/-- A head's state out of its pair's. -/
abbrev cd : Fin 64 → Fin 128 → EReal := fun κ d => cp (ix2 (half h κ) (vlane d))
/-- A head's normalizer state out of its pair's. -/
abbrev nd (d : Fin 128) : Fin 64 → EReal := fun κ => cp (ix2 (half h κ) (nlane d))

theorem resF_num (t d : Fin 128) :
    resF (maskF h) h.val (sl_col h) (sl_row h) (sl_one h) qp kp vh li fp m cp (ix2 t (vlane d)) =
      Spec.num (hd h qp) (hd h kp) (vd vh) (liH h li) (lfH h fp) (m (ix2 0 (lane h))) (cd h cp) t d := by
  pointwise [resF, veF, keepF]
  simp only [sum_mask, ldF_apply, mtF_apply, ilF_apply]
  rfl

theorem resF_den (t d : Fin 128) :
    resF (maskF h) h.val (sl_col h) (sl_row h) (sl_one h) qp kp vh li fp m cp (ix2 t (nlane d)) =
      Spec.den (hd h qp) (hd h kp) (liH h li) (lfH h fp) (m (ix2 0 (lane h))) (nd h cp d) t := by
  pointwise [resF, veF, keepF, k0_pay14]
  simp only [sum_mask, ldF_apply, mtF_apply, ilF_apply]
  rfl

theorem hvF_apply (t d : Fin 128) (N : Fin 64 → EReal) (hN : ∀ κ e, cp (ix2 (half h κ) (nlane e)) = N κ) :
    hvF h.val (sl_col h) (sl_row h) (sl_one h) li fp m
      (resF (maskF h) h.val (sl_col h) (sl_row h) (sl_one h) qp kp vh li fp m cp) (ix2 t d) =
    Spec.hv (hd h qp) (hd h kp) (vd vh) (liH h li) (lfH h fp) (m (ix2 0 (lane h))) (cd h cp) N t d := by
  have e : nd h cp d = N := funext fun κ => hN κ d
  pointwise [hvF]
  rw [Ideal.absf_def, mtF_apply, resF_num, resF_den, e]
  rfl

theorem sigmoid_tanh (x : EReal) :
    ((1 / 2 : ℝ) : EReal) + ((1 / 2 : ℝ) : EReal) * Ideal.tanh (((1 / 2 : ℝ) : EReal) * x) = Ideal.logistic x := by
  induction x using EReal.rec with
  | bot =>
    rw [EReal.coe_mul_bot_of_pos (by norm_num), Ideal.tanh_bot, Ideal.logistic_bot, ← EReal.coe_one, ← EReal.coe_neg, ← EReal.coe_mul,
      ← EReal.coe_add]
    norm_num
  | top =>
    rw [EReal.coe_mul_top_of_pos (by norm_num), Ideal.tanh_top, Ideal.logistic_top, ← EReal.coe_one, ← EReal.coe_mul,
      ← EReal.coe_add]
    norm_num
  | coe r =>
    rw [← EReal.coe_mul, Ideal.tanh_coe, Ideal.logistic_coe, ← EReal.coe_mul, ← EReal.coe_add]
    congr 1
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    rw [h1, Real.tanh_eq_sinh_div_cosh, Real.sinh_eq, Real.cosh_eq]
    have p1 := Real.exp_pos (1 / 2 * r)
    have p2 := Real.exp_pos (-(1 / 2 * r))
    generalize Real.exp (1 / 2 * r) = a at *
    generalize Real.exp (-(1 / 2 * r)) = b at *
    field_simp
    nlinarith [h2]

theorem gateF_apply (oh hv : FVec Ideal S128x128 .f32) (nw : FVec Ideal S1x128 .f32) (t d : Fin 128) :
    gateF oh hv nw (ix3 0 t d) = Spec.gated (oh (ix2 t d)) (nw (ix2 0 d)) (fun e => hv (ix2 t e)) d := by
  pointwise [gateF]
  rw [ofBits_half, sigmoid_tanh]
  rfl

theorem outF_apply (oh : FVec Ideal S128x128 .f32) (nw : FVec Ideal S1x128 .f32) (t d : Fin 128) (N : Fin 64 → EReal)
    (hN : ∀ κ e, cp (ix2 (half h κ) (nlane e)) = N κ) :
    outF (maskF h) h.val (sl_col h) (sl_row h) (sl_one h) qp kp vh oh li fp m cp nw (ix3 0 t d) =
      Spec.gated (oh (ix2 t d)) (nw (ix2 0 d))
        (Spec.hv (hd h qp) (hd h kp) (vd vh) (liH h li) (lfH h fp) (m (ix2 0 (lane h))) (cd h cp) N t) d := by
  rw [outF, gateF_apply]
  simp only [hvF_apply h li fp m qp kp vh cp _ _ N hN]

end Head

section State

variable (p : Fin 4) (kp vh vh1 li fp : FVec Ideal S128x128 .f32) (m : FVec Ideal S1x128 .f32) (cp : FVec Ideal S128x256 .f32)

/-- A pair's state after the chunk. -/
abbrev stP : FVec Ideal S1x1x128x256 .f32 :=
  stF (headA p).val (headB p).val (sl_col (headA p)) (sl_col (headB p)) (sl_one (headA p)) (sl_one (headB p)) kp vh vh1 li fp m cp

theorem addF_v (mask : IVec S128x128 1) (h : Fin 8) (r d : Fin 128) :
    addF mask h.val (sl_col h) (sl_one h) kp vh li fp m (ix2 r (vlane d)) =
      Spec.sl (liH h li) (lfH h fp) (m (ix2 0 (lane h))) *
        ∑ x, Scalar.select (mask (ix2 x r)) (kp (ix2 x r) * Spec.we (liH h li) (lfH h fp) x * vh (ix2 x d)) 0 := by
  pointwise [addF, keepF, veF]
  simp only [slF_apply, weF_apply]

theorem addF_n (mask : IVec S128x128 1) (h : Fin 8) (r d : Fin 128) :
    addF mask h.val (sl_col h) (sl_one h) kp vh li fp m (ix2 r (nlane d)) =
      Spec.sl (liH h li) (lfH h fp) (m (ix2 0 (lane h))) *
        ∑ x, Scalar.select (mask (ix2 x r)) (kp (ix2 x r) * Spec.we (liH h li) (lfH h fp) x) 0 := by
  pointwise [addF, keepF, veF, k0_pay14]
  simp only [slF_apply, weF_apply]

theorem decF_apply (h h1 : Fin 8) (r : Fin 128) (d : Fin 256) :
    decF h.val h1.val (sl_one h) (sl_one h1) li fp m cp (ix2 r d) =
      cp (ix2 r d) * if r.val < 64 then Spec.sp (liH h li) (lfH h fp) (m (ix2 0 (lane h)))
        else Spec.sp (liH h1 li) (lfH h1 fp) (m (ix2 0 (lane h1))) := by
  pointwise [decF]
  simp only [spF_apply, lt_select]

theorem st_apply (r : Fin 128) (d : Fin 256) : stP p kp vh vh1 li fp m cp (ix4 0 0 r d) =
    decF (headA p).val (headB p).val (sl_one (headA p)) (sl_one (headB p)) li fp m cp (ix2 r d) +
      addF (cmpi .slt laneF (broadcast S128x128 64#32)) (headA p).val (sl_col (headA p)) (sl_one (headA p)) kp vh li fp m (ix2 r d) +
      addF (cmpi .sge laneF (broadcast S128x128 64#32)) (headB p).val (sl_col (headB p)) (sl_one (headB p)) kp vh1 li fp m (ix2 r d) := by
  pointwise [stF]

theorem stF_vA (κ : Fin 64) (d : Fin 128) : stP p kp vh vh1 li fp m cp (ix4 0 0 (half (headA p) κ) (vlane d)) =
    Spec.stC (hd (headA p) kp) (vd vh) (liH (headA p) li) (lfH (headA p) fp) (m (ix2 0 (lane (headA p)))) (cd (headA p) cp) κ d := by
  have hr : (half (headA p) κ).val < 64 := by simp only; omega
  rw [st_apply, decF_apply, addF_v, addF_v]
  simp only [lt_mask, ge_mask, if_pos hr, Finset.sum_const_zero, mul_zero, add_zero]
  rfl

theorem stF_vB (κ : Fin 64) (d : Fin 128) : stP p kp vh vh1 li fp m cp (ix4 0 0 (half (headB p) κ) (vlane d)) =
    Spec.stC (hd (headB p) kp) (vd vh1) (liH (headB p) li) (lfH (headB p) fp) (m (ix2 0 (lane (headB p)))) (cd (headB p) cp) κ d := by
  have hr : ¬(half (headB p) κ).val < 64 := by simp only; omega
  rw [st_apply, decF_apply, addF_v, addF_v]
  simp only [lt_mask, ge_mask, if_neg hr, Finset.sum_const_zero, mul_zero, add_zero]
  rfl

theorem stF_nA (κ : Fin 64) (d : Fin 128) : stP p kp vh vh1 li fp m cp (ix4 0 0 (half (headA p) κ) (nlane d)) =
    Spec.stN (hd (headA p) kp) (liH (headA p) li) (lfH (headA p) fp) (m (ix2 0 (lane (headA p)))) (nd (headA p) cp d) κ := by
  have hr : (half (headA p) κ).val < 64 := by simp only; omega
  rw [st_apply, decF_apply, addF_n, addF_n]
  simp only [lt_mask, ge_mask, if_pos hr, Finset.sum_const_zero, mul_zero, add_zero]
  rfl

theorem stF_nB (κ : Fin 64) (d : Fin 128) : stP p kp vh vh1 li fp m cp (ix4 0 0 (half (headB p) κ) (nlane d)) =
    Spec.stN (hd (headB p) kp) (liH (headB p) li) (lfH (headB p) fp) (m (ix2 0 (lane (headB p)))) (nd (headB p) cp d) κ := by
  have hr : ¬(half (headB p) κ).val < 64 := by simp only; omega
  rw [st_apply, decF_apply, addF_n, addF_n]
  simp only [lt_mask, ge_mask, if_neg hr, Finset.sum_const_zero, mul_zero, add_zero]
  rfl

end State

end Cert.Mlstm

end
-- ==== Proof.Mlstm.KBlk.lean ====
/- The blocks a point reads, and the projections it computes from them, in terms of the arguments. -/
module

public import proofs.«01_k».proof.Proof.Gen.KernelIdeal.Value
public import proofs.«01_k».proof.Proof.Mlstm.KVal
public import Idealize.ShloMosaic.Lib.Claim
public import Idealize.ShloMosaic.Lib.StableHlo.ReadAt
public import Idealize.ShloMosaic.Lib.Pipeline.ValueKit

@[expose] public section

set_option maxRecDepth 16384

noncomputable section

namespace Cert.Mlstm

open Cert.KernelIdeal Cert.KernelIdeal.Gen Idealize.ShloMosaic Idealize.ShloMosaic.TcCoe

variable (m : (ℓ : Loc nD τ sig) → Buf (Elt Ideal) ℓ)

theorem idx0 : ∀ t : Fin cfg0.N, win0_0.index t = ![t.val / 8, t.val % 8, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel

theorem blk0 (c : Dev nD) (t : Fin cfg0.N) (s : Fin 2) (r : Fin 256) (e : Fin 1024) :
    iblk m c 0 t (ix3 s r e) = m ((c : Thread nD τ).loc main_arg0)
      (ix3 ⟨2 * (t.val / 8) + s.val, by have := lt_of_lt_of_eq t.isLt N_0; omega⟩ ⟨256 * (t.val % 8) + r.val, by omega⟩ e) := by
  blk_ext [iblk, V, idx0]
theorem blk1 (c : Dev nD) (t : Fin cfg0.N) (e : Fin 1024) (k : Fin 3328) :
    iblk m c 1 t (ix2 e k) = V m c main_v9 (ix2 e k) := by
  blk_ext [iblk, idx1]
theorem blk2 (c : Dev nD) (t : Fin cfg0.N) (k : Fin 256) :
    iblk m c 2 t (ix2 0 k) = V m c main_v16 (ix2 0 k) := by
  blk_ext [iblk, idx2]
theorem blk3 (c : Dev nD) (t : Fin cfg0.N) (k : Fin 1024) :
    iblk m c 3 t (ix2 0 k) = V m c main_v18 (ix2 0 k) := by
  blk_ext [iblk, idx3]

theorem v9_q (c : Dev nD) (e : Fin 1024) (k : Fin 512) :
    @Eq EReal (V m c main_v9 (ix2 e ⟨k.val, by omega⟩))
      (HMul.hMul (α := EReal) (m ((c : Thread nD τ).loc main_arg1) (ix3 0 e ⟨3088 + k.val, by omega⟩)) (Ideal.ofBits .f32 0x3E000000#32)) := by
  unfold V
  simp only [List.flatten_cons, List.flatten_nil, List.append_nil, List.cons_append, List.nil_append]
  after_reads_at
  after_reads_at
theorem v9_kvo (c : Dev nD) (e : Fin 1024) (k : Fin 2560) :
    @Eq EReal (V m c main_v9 (ix2 e ⟨512 + k.val, by omega⟩)) (m ((c : Thread nD τ).loc main_arg1) (ix3 0 e ⟨3600 + k.val, by omega⟩)) := by
  unfold V
  simp only [List.flatten_cons, List.flatten_nil, List.append_nil, List.cons_append, List.nil_append]
  after_reads_at
  after_reads_at
theorem v9_i (c : Dev nD) (e : Fin 1024) (k : Fin 8) :
    @Eq EReal (V m c main_v9 (ix2 e ⟨3072 + k.val, by omega⟩)) (m ((c : Thread nD τ).loc main_arg1) (ix3 0 e ⟨6160 + k.val, by omega⟩)) := by
  unfold V
  simp only [List.flatten_cons, List.flatten_nil, List.append_nil, List.cons_append, List.nil_append]
  after_reads_at
  rw [dif_neg (by omega), dif_neg (by omega), dif_pos (by omega)]
  after_reads_at
  exact congrArg (fun i => m ((c : Thread nD τ).loc main_arg1) (ix3 0 e i)) (Fin.ext (by simp only; omega))
theorem v9_f (c : Dev nD) (e : Fin 1024) (k : Fin 8) :
    @Eq EReal (V m c main_v9 (ix2 e ⟨3200 + k.val, by omega⟩)) (m ((c : Thread nD τ).loc main_arg1) (ix3 0 e ⟨6168 + k.val, by omega⟩)) := by
  unfold V
  simp only [List.flatten_cons, List.flatten_nil, List.append_nil, List.cons_append, List.nil_append]
  after_reads_at
  rw [dif_neg (by omega), dif_neg (by omega), dif_neg (by omega), dif_neg (by omega), dif_pos (by omega)]
  after_reads_at
  exact congrArg (fun i => m ((c : Thread nD τ).loc main_arg1) (ix3 0 e i)) (Fin.ext (by simp only; omega))
theorem v16_i (c : Dev nD) (k : Fin 8) :
    @Eq EReal (V m c main_v16 (ix2 0 ⟨k.val, by omega⟩)) (m ((c : Thread nD τ).loc main_arg2) (ix2 0 k)) := by
  unfold V
  simp only [List.flatten_cons, List.flatten_nil, List.append_nil, List.cons_append, List.nil_append]
  after_reads_at
  exact dif_pos (by omega)
theorem v16_f (c : Dev nD) (k : Fin 8) :
    @Eq EReal (V m c main_v16 (ix2 0 ⟨128 + k.val, by omega⟩)) (m ((c : Thread nD τ).loc main_arg3) (ix2 0 k)) := by
  unfold V
  simp only [List.flatten_cons, List.flatten_nil, List.append_nil, List.cons_append, List.nil_append]
  after_reads_at
theorem v18 (c : Dev nD) (k : Fin 1024) :
    @Eq EReal (V m c main_v18 (ix2 0 k)) (m ((c : Thread nD τ).loc main_arg4) (ix2 0 k)) := by
  unfold V
  simp only [List.flatten_cons, List.flatten_nil, List.append_nil, List.cons_append, List.nil_append]
  after_reads_at

section Proj

variable (x0 : Vec Ideal S2x256x1024 .f32) (x1 : Vec Ideal S1024x3328 .bf16) (x2 : Vec Ideal S1x256 .f32) (x3 : Vec Ideal S1x1024 .f32)
variable (s ci : Fin 2) (h : Fin 8) (t : Fin 128)

/-- A row of the point's block. -/
abbrev brow : Fin 256 := ⟨128 * ci.val + t.val, by omega⟩

theorem dot_congr {r r' : Fin 256} {k k' : Fin 3328} (hr : r.val = r'.val) (hk : k.val = k'.val) :
    ∑ e, x0 (ix3 s r e) * x1 (ix2 e k) = ∑ e, x0 (ix3 s r' e) * x1 (ix2 e k') := by
  rw [Fin.ext hr, Fin.ext hk]

theorem qs_apply (κ : Fin 64) : hd h ((projV x0 x1 x2 x3).qs s ci (pairOf h)) t κ =
    ∑ e, x0 (ix3 s (brow ci t) e) * x1 (ix2 e ⟨64 * h.val + κ.val, by omega⟩) := by
  pointwise [Proj.qs, projV, projOf, k0_pay6, k0_pay5]
  exact dot_congr x0 x1 s (by simp only; omega) (by simp only; omega)
theorem ks_apply (κ : Fin 64) : hd h ((projV x0 x1 x2 x3).ks s ci (pairOf h)) t κ =
    ∑ e, x0 (ix3 s (brow ci t) e) * x1 (ix2 e ⟨512 + (64 * h.val + κ.val), by omega⟩) := by
  pointwise [Proj.ks, projV, projOf, k0_pay7, k0_pay5]
  exact dot_congr x0 x1 s (by simp only; omega) (by simp only; omega)
theorem vs_apply (d : Fin 128) : (projV x0 x1 x2 x3).vs s ci h (ix2 t d) =
    ∑ e, x0 (ix3 s (brow ci t) e) * x1 (ix2 e ⟨512 + (512 + (128 * h.val + d.val)), by omega⟩) := by
  pointwise [Proj.vs, projV, projOf, k0_pay8, k0_pay5]
  exact dot_congr x0 x1 s (by simp only; omega) (by simp only; omega)
theorem os_apply (d : Fin 128) : (projV x0 x1 x2 x3).os s ci h (ix2 t d) =
    ∑ e, x0 (ix3 s (brow ci t) e) * x1 (ix2 e ⟨512 + (1536 + (128 * h.val + d.val)), by omega⟩) := by
  pointwise [Proj.os, projV, projOf, k0_pay9, k0_pay5]
  exact dot_congr x0 x1 s (by simp only; omega) (by simp only; omega)
theorem li_apply : (projV x0 x1 x2 x3).li s ci (ix2 t (lane h)) =
    (∑ e, x0 (ix3 s (brow ci t) e) * x1 (ix2 e ⟨3072 + h.val, by omega⟩)) + x2 (ix2 0 ⟨h.val, by omega⟩) := by
  pointwise [Proj.li, projV, projOf, k0_pay10, k0_pay5]
  exact congrArg (· + _) (dot_congr x0 x1 s (by simp only; omega) rfl)
theorem fp_apply : (projV x0 x1 x2 x3).fp s ci (ix2 t (lane h)) =
    (∑ e, x0 (ix3 s (brow ci t) e) * x1 (ix2 e ⟨3200 + h.val, by omega⟩)) + x2 (ix2 0 ⟨128 + h.val, by omega⟩) := by
  pointwise [Proj.fp, projV, projOf, k0_pay10, k0_pay5]
  exact congrArg (· + _) (dot_congr x0 x1 s (by simp only; omega) (by simp only; omega))
theorem w_apply (d : Fin 128) : (projV x0 x1 x2 x3).w h (ix2 0 d) = x3 (ix2 0 ⟨128 * h.val + d.val, by omega⟩) := by
  pointwise [projV, projOf]

end Proj

/-- The arguments, as the kernel's memory holds them. -/
def inpK (c : Dev nD) : Spec.Inp where
  x b t e := m ((c : Thread nD τ).loc main_arg0) (ix3 b t e)
  w e k := m ((c : Thread nD τ).loc main_arg1) (ix3 0 e k)
  ib h := m ((c : Thread nD τ).loc main_arg2) (ix2 0 h)
  fb h := m ((c : Thread nD τ).loc main_arg3) (ix2 0 h)
  nw k := m ((c : Thread nD τ).loc main_arg4) (ix2 0 k)

/-- A point's two sequences. -/
abbrev seqOf (t : Fin cfg0.N) (s : Fin 2) : Fin 16 := ⟨2 * (t.val / 8) + s.val, by have := lt_of_lt_of_eq t.isLt N_0; omega⟩
/-- A point's two chunks. -/
abbrev chunkOf (t : Fin cfg0.N) (ci : Fin 2) : Fin 16 := ⟨2 * (t.val % 8) + ci.val, by omega⟩

/-- A point's projections. -/
abbrev pt (c : Dev nD) (t : Fin cfg0.N) : Proj Ideal := projV (iblk m c 0 t) (iblk m c 1 t) (iblk m c 2 t) (iblk m c 3 t)

theorem dot_pj (c : Dev nD) (t : Fin cfg0.N) (s ci : Fin 2) (r : Fin 128) (k : Fin 3328) (k' : Fin 8224)
    (hk : ∀ e, @Eq EReal (V m c main_v9 (ix2 e k)) ((inpK m c).w e k')) :
    (∑ e, HMul.hMul (α := EReal) (iblk m c 0 t (ix3 s (brow ci r) e)) (iblk m c 1 t (ix2 e k))) =
      (inpK m c).pj (seqOf t s) (Spec.row (chunkOf t ci) r) k' := by
  refine Finset.sum_congr rfl fun e _ => ?_
  rw [blk0, blk1, hk]
  refine congrArg (fun i => HMul.hMul (α := EReal) (m ((c : Thread nD τ).loc main_arg0) (ix3 (seqOf t s) i e)) ((inpK m c).w e k')) (Fin.ext ?_)
  simp only
  omega

theorem sum_scale (a b : Fin 1024 → EReal) (r : EReal) (h0 : 0 ≤ r) (h1 : r ≠ ⊤) :
    ∑ e, a e * (b e * r) = (∑ e, a e * b e) * r := by
  simp only [← mul_assoc]
  generalize (Finset.univ : Finset (Fin 1024)) = S
  induction S using Finset.induction_on with
  | empty => simp
  | insert x S hx ih => rw [Finset.sum_insert hx, Finset.sum_insert hx, ih, EReal.right_distrib_of_nonneg_of_ne_top h0 h1]

theorem eighth : Ideal.ofBits .f32 0x3E000000#32 = ((1 / 8 : ℝ) : EReal) := by
  simp [Ideal.ofBits, Ideal.ieee, -EReal.coe_mul]; norm_num

/-- A chunk of the projections is the chunk `n` of sequence `b`. -/
structure ReadsAs (P : Proj Ideal) (s ci : Fin 2) (I : Spec.Inp) (b n : Fin 16) : Prop where
  q : ∀ h, hd h (P.qs s ci (pairOf h)) = I.q b h n
  k : ∀ h, hd h (P.ks s ci (pairOf h)) = I.k b h n
  v : ∀ h, vd (P.vs s ci h) = I.v b h n
  o : ∀ h t d, P.os s ci h (ix2 t d) = I.o b h n t d
  li : ∀ h, liH h (P.li s ci) = I.li b h n
  lf : ∀ h, lfH h (P.fp s ci) = I.lf b h n
  w : ∀ h (d : Fin 128), P.w h (ix2 0 d) = I.nw ⟨128 * h.val + d.val, by omega⟩

theorem pt_reads (c : Dev nD) (t : Fin cfg0.N) (s ci : Fin 2) :
    ReadsAs (pt m c t) s ci (inpK m c) (seqOf t s) (chunkOf t ci) where
  q h := by
    funext r κ
    rw [qs_apply]
    refine Eq.trans ?_ (sum_scale _ _ _ (by rw [eighth]; exact EReal.coe_nonneg.mpr (by norm_num)) (by rw [eighth]; exact EReal.coe_ne_top _))
    refine Finset.sum_congr rfl fun e _ => ?_
    rw [blk0, blk1]
    refine congrArg₂ (HMul.hMul (α := EReal)) (congrArg (fun i => m ((c : Thread nD τ).loc main_arg0) (ix3 (seqOf t s) i e)) (Fin.ext ?_))
      (v9_q m c e ⟨64 * h.val + κ.val, by omega⟩)
    simp only
    omega
  k h := by
    funext r κ
    rw [ks_apply]
    exact dot_pj m c t s ci r _ _ fun e => v9_kvo m c e ⟨64 * h.val + κ.val, by omega⟩
  v h := by
    funext r d
    refine (vs_apply _ _ _ _ _ _ _ _ _).trans ((dot_pj m c t s ci r _ _ fun e => v9_kvo m c e ⟨512 + (128 * h.val + d.val), by omega⟩).trans ?_)
    exact congrArg ((inpK m c).pj _ _) (Fin.ext (by simp only; omega))
  o h r d := by
    refine (os_apply _ _ _ _ _ _ _ _ _).trans ((dot_pj m c t s ci r _ _ fun e => v9_kvo m c e ⟨1536 + (128 * h.val + d.val), by omega⟩).trans ?_)
    exact congrArg ((inpK m c).pj _ _) (Fin.ext (by simp only; omega))
  li h := by
    funext r
    refine (li_apply _ _ _ _ _ _ _ _).trans (congrArg₂ (HAdd.hAdd (α := EReal)) (dot_pj m c t s ci r _ _ fun e => v9_i m c e h) ?_)
    exact (blk2 m c t _).trans (v16_i m c h)
  lf h := by
    funext r
    refine congrArg Spec.lfOf ((fp_apply _ _ _ _ _ _ _ _).trans (congrArg₂ (HAdd.hAdd (α := EReal)) (dot_pj m c t s ci r _ _ fun e => v9_f m c e h) ?_))
    exact (blk2 m c t _).trans (v16_f m c h)
  w h d := (w_apply _ _ _ _ _ _).trans ((blk3 m c t _).trans (v18 m c _))

end Cert.Mlstm

end
-- ==== Proof.Mlstm.CaseA.lean ====
/- Case A of the kernel body: the pieces its run stores are the point's chunks. -/
module

public import proofs.«01_k».proof.Proof.Mlstm.KPoint
public import proofs.«01_k».proof.Proof.Gen.KernelIdeal.Frame

@[expose] public section

set_option maxRecDepth 16384
set_option maxHeartbeats 4000000

noncomputable section

namespace Cert.Mlstm.CaseA

open Cert.KernelIdeal Cert.KernelIdeal.Gen Idealize.ShloMosaic Idealize.ShloMosaic.TcCoe Idealize.SL.Sem Cert.Mlstm

variable {F : FTy → Type} [FloatOps F]
variable (c : Dev nD) (i : grid0.Coords) (arg2 : Memref sig .tc .vmem S2x256x1024 .f32) (harg2 : arg2.IsWhole)
  (arg3 : Memref sig .tc .vmem S1024x3328 .bf16) (harg3 : arg3.IsWhole) (arg4 : Memref sig .tc .vmem S1x256 .f32) (harg4 : arg4.IsWhole)
  (arg5 : Memref sig .tc .vmem S1x1024 .f32) (harg5 : arg5.IsWhole) (arg6 : Memref sig .tc .vmem S2x256x1024 .bf16) (harg6 : arg6.IsWhole)
  (arg7 : Memref sig .tc .vmem S2x4x128x256 .f32) (harg7 : arg7.IsWhole) (arg8 : Memref sig .tc .vmem S2x1x128 .f32) (harg8 : arg8.IsWhole)
  (hc0 : cond0_0 i)
  (x0 : Vec F S2x256x1024 .f32) (x1 : Vec F S1024x3328 .bf16) (x2 : Vec F S1x256 .f32) (x3 : Vec F S1x1024 .f32)

/-- The projections, over the blocks the body loads. -/
def proj : Proj F :=
  projOf (View.readAt (Elt F) arg2.view (Rect.unit (s := S2x256x1024) ![0, 0, 0] S2x256x1024.size inb_S2x256x1024_S2x256x1024_0_0_0).toLoadRect (harg2.unread x0))
    (View.readAt (Elt F) arg3.view (Rect.unit (s := S1024x3328) ![0, 0] S1024x512.size inb_S1024x3328_S1024x512_0_0).toLoadRect (harg3.unread x1))
    (View.readAt (Elt F) arg3.view (Rect.unit (s := S1024x3328) ![0, 512] S1024x512.size inb_S1024x3328_S1024x512_0_512).toLoadRect (harg3.unread x1))
    (View.readAt (Elt F) arg3.view (Rect.unit (s := S1024x3328) ![0, 1024] S1024x1024.size inb_S1024x3328_S1024x1024_0_1024).toLoadRect (harg3.unread x1))
    (View.readAt (Elt F) arg3.view (Rect.unit (s := S1024x3328) ![0, 2048] S1024x1024.size inb_S1024x3328_S1024x1024_0_2048).toLoadRect (harg3.unread x1))
    (View.readAt (Elt F) arg3.view (Rect.unit (s := S1024x3328) ![0, 3072] S1024x256.size inb_S1024x3328_S1024x256_0_3072).toLoadRect (harg3.unread x1))
    (View.readAt (Elt F) arg4.view (Rect.unit (s := S1x256) ![0, 0] S1x256.size inb_S1x256_S1x256_0_0).toLoadRect (harg4.unread x2))
    (fun h => View.readAt (Elt F) arg5.view (Rect.unit (s := S1x1024) ![0, 128 * h.val] S1x128.size (sl_nw h)).toLoadRect (harg5.unread x3))

/-- The stabilizers the body loads, by sequence and chunk. -/
def mW : Fin 2 → Fin 2 → FVec F S1x1x128 .f32
  | 0, 0 => kernelRun0_A.sl.v71 c arg8
  | 1, 0 => kernelRun0_A.sl.v124 c arg2 harg2 arg3 harg3 arg4 harg4 arg8 x0 x1 x2
  | 0, 1 => kernelRun0_A.sl.v1665 c arg2 harg2 arg3 harg3 arg4 harg4 arg8 x0 x1 x2
  | 1, 1 => kernelRun0_A.sl.v1718 c arg2 harg2 arg3 harg3 arg4 harg4 arg8 x0 x1 x2

/-- The pair states the body loads, by sequence, chunk and pair. -/
def cW : Fin 2 → Fin 2 → Fin 4 → FVec F S1x1x128x256 .f32
  | 0, 0, 0 => kernelRun0_A.sl.v147 c arg7
  | 1, 0, 0 => kernelRun0_A.sl.v164 c arg7
  | 0, 0, 1 => kernelRun0_A.sl.v519 c arg2 harg2 arg3 harg3 arg4 harg4 arg7 arg8 x0 x1 x2
  | 1, 0, 1 => kernelRun0_A.sl.v536 c arg2 harg2 arg3 harg3 arg4 harg4 arg7 arg8 x0 x1 x2
  | 0, 0, 2 => kernelRun0_A.sl.v891 c arg2 harg2 arg3 harg3 arg4 harg4 arg7 arg8 x0 x1 x2
  | 1, 0, 2 => kernelRun0_A.sl.v908 c arg2 harg2 arg3 harg3 arg4 harg4 arg7 arg8 x0 x1 x2
  | 0, 0, 3 => kernelRun0_A.sl.v1263 c arg2 harg2 arg3 harg3 arg4 harg4 arg7 arg8 x0 x1 x2
  | 1, 0, 3 => kernelRun0_A.sl.v1280 c arg2 harg2 arg3 harg3 arg4 harg4 arg7 arg8 x0 x1 x2
  | 0, 1, 0 => kernelRun0_A.sl.v1741 c arg2 harg2 arg3 harg3 arg4 harg4 arg7 arg8 x0 x1 x2
  | 1, 1, 0 => kernelRun0_A.sl.v1758 c arg2 harg2 arg3 harg3 arg4 harg4 arg7 arg8 x0 x1 x2
  | 0, 1, 1 => kernelRun0_A.sl.v2113 c arg2 harg2 arg3 harg3 arg4 harg4 arg7 arg8 x0 x1 x2
  | 1, 1, 1 => kernelRun0_A.sl.v2130 c arg2 harg2 arg3 harg3 arg4 harg4 arg7 arg8 x0 x1 x2
  | 0, 1, 2 => kernelRun0_A.sl.v2485 c arg2 harg2 arg3 harg3 arg4 harg4 arg7 arg8 x0 x1 x2
  | 1, 1, 2 => kernelRun0_A.sl.v2502 c arg2 harg2 arg3 harg3 arg4 harg4 arg7 arg8 x0 x1 x2
  | 0, 1, 3 => kernelRun0_A.sl.v2857 c arg2 harg2 arg3 harg3 arg4 harg4 arg7 arg8 x0 x1 x2
  | 1, 1, 3 => kernelRun0_A.sl.v2874 c arg2 harg2 arg3 harg3 arg4 harg4 arg7 arg8 x0 x1 x2

/-- The output's pieces. -/
theorem pieces : View.PiecesOf (outG (proj arg2 harg2 arg3 harg3 arg4 harg4 arg5 harg5 x0 x1 x2 x3) (mW c arg2 harg2 arg3 harg3 arg4 harg4 arg8 x0 x1 x2) (cW c arg2 harg2 arg3 harg3 arg4 harg4 arg7 arg8 x0 x1 x2))
    (kernelRun0_A c i arg2 harg2 arg3 harg3 arg4 harg4 arg5 harg5 arg6 harg6 arg7 harg7 arg8 harg8 hc0 x0 x1 x2 x3).1 := by
  have hp := fun (s ci : Fin 2) (h : Fin 8) => outG_eq (proj arg2 harg2 arg3 harg3 arg4 harg4 arg5 harg5 x0 x1 x2 x3) (mW c arg2 harg2 arg3 harg3 arg4 harg4 arg8 x0 x1 x2) (cW c arg2 harg2 arg3 harg3 arg4 harg4 arg7 arg8 x0 x1 x2) s ci h
  exact ⟨fun x => hp 1 1 7 _ x rfl rfl rfl,
    fun x => hp 0 1 7 _ x rfl rfl rfl,
    fun x => hp 1 1 6 _ x rfl rfl rfl,
    fun x => hp 0 1 6 _ x rfl rfl rfl,
    fun x => hp 1 1 5 _ x rfl rfl rfl,
    fun x => hp 0 1 5 _ x rfl rfl rfl,
    fun x => hp 1 1 4 _ x rfl rfl rfl,
    fun x => hp 0 1 4 _ x rfl rfl rfl,
    fun x => hp 1 1 3 _ x rfl rfl rfl,
    fun x => hp 0 1 3 _ x rfl rfl rfl,
    fun x => hp 1 1 2 _ x rfl rfl rfl,
    fun x => hp 0 1 2 _ x rfl rfl rfl,
    fun x => hp 1 1 1 _ x rfl rfl rfl,
    fun x => hp 0 1 1 _ x rfl rfl rfl,
    fun x => hp 1 1 0 _ x rfl rfl rfl,
    fun x => hp 0 1 0 _ x rfl rfl rfl,
    fun x => hp 1 0 7 _ x rfl rfl rfl,
    fun x => hp 0 0 7 _ x rfl rfl rfl,
    fun x => hp 1 0 6 _ x rfl rfl rfl,
    fun x => hp 0 0 6 _ x rfl rfl rfl,
    fun x => hp 1 0 5 _ x rfl rfl rfl,
    fun x => hp 0 0 5 _ x rfl rfl rfl,
    fun x => hp 1 0 4 _ x rfl rfl rfl,
    fun x => hp 0 0 4 _ x rfl rfl rfl,
    fun x => hp 1 0 3 _ x rfl rfl rfl,
    fun x => hp 0 0 3 _ x rfl rfl rfl,
    fun x => hp 1 0 2 _ x rfl rfl rfl,
    fun x => hp 0 0 2 _ x rfl rfl rfl,
    fun x => hp 1 0 1 _ x rfl rfl rfl,
    fun x => hp 0 0 1 _ x rfl rfl rfl,
    fun x => hp 1 0 0 _ x rfl rfl rfl,
    fun x => hp 0 0 0 _ x rfl rfl rfl, trivial⟩

/-- The state's last pieces. -/
theorem stPieces : View.PiecesOf (stG (proj arg2 harg2 arg3 harg3 arg4 harg4 arg5 harg5 x0 x1 x2 x3) (mW c arg2 harg2 arg3 harg3 arg4 harg4 arg8 x0 x1 x2) (cW c arg2 harg2 arg3 harg3 arg4 harg4 arg7 arg8 x0 x1 x2))
    ((kernelRun0_A c i arg2 harg2 arg3 harg3 arg4 harg4 arg5 harg5 arg6 harg6 arg7 harg7 arg8 harg8 hc0 x0 x1 x2 x3).2.1.take 8) := by
  have hp := fun (s : Fin 2) (p : Fin 4) => stG_eq (proj arg2 harg2 arg3 harg3 arg4 harg4 arg5 harg5 x0 x1 x2 x3) (mW c arg2 harg2 arg3 harg3 arg4 harg4 arg8 x0 x1 x2) (cW c arg2 harg2 arg3 harg3 arg4 harg4 arg7 arg8 x0 x1 x2) s p
  exact ⟨fun x => hp 1 3 _ x rfl rfl rfl rfl,
    fun x => hp 0 3 _ x rfl rfl rfl rfl,
    fun x => hp 1 2 _ x rfl rfl rfl rfl,
    fun x => hp 0 2 _ x rfl rfl rfl rfl,
    fun x => hp 1 1 _ x rfl rfl rfl rfl,
    fun x => hp 0 1 _ x rfl rfl rfl rfl,
    fun x => hp 1 0 _ x rfl rfl rfl rfl,
    fun x => hp 0 0 _ x rfl rfl rfl rfl, trivial⟩

/-- The stabilizers' last pieces. -/
theorem msPieces : View.PiecesOf (msG (proj arg2 harg2 arg3 harg3 arg4 harg4 arg5 harg5 x0 x1 x2 x3) (mW c arg2 harg2 arg3 harg3 arg4 harg4 arg8 x0 x1 x2))
    ((kernelRun0_A c i arg2 harg2 arg3 harg3 arg4 harg4 arg5 harg5 arg6 harg6 arg7 harg7 arg8 harg8 hc0 x0 x1 x2 x3).2.2.1.take 2) := by
  have hp := fun (s : Fin 2) => msG_eq (proj arg2 harg2 arg3 harg3 arg4 harg4 arg5 harg5 x0 x1 x2 x3) (mW c arg2 harg2 arg3 harg3 arg4 harg4 arg8 x0 x1 x2) s
  exact ⟨fun x => hp 1 _ x rfl rfl, fun x => hp 0 _ x rfl rfl, trivial⟩

/-- What the first chunks load is the reset. -/
theorem mW_zero (s : Fin 2) : mW c arg2 harg2 arg3 harg3 arg4 harg4 arg8 x0 x1 x2 s 0 = mAt k0_pay4 s := by
  match s with
  | 0 | 1 =>
    simp (disch := decide) only [mW, kernelRun0_A.sl.v71, kernelRun0_A.sl.v124, kernelRun0_A.sl.HS1_2, kernelRun0_A.sl.HS1_1, ↓View.readCov_skip, View.readCov_fill]
    rfl

theorem cW_zero (s : Fin 2) (p : Fin 4) : cW c arg2 harg2 arg3 harg3 arg4 harg4 arg7 arg8 x0 x1 x2 s 0 p = cAt k0_pay3 s p := by
  match s, p with
  | 0, 0 | 1, 0 | 0, 1 | 1, 1 | 0, 2 | 1, 2 | 0, 3 | 1, 3 =>
    simp (disch := decide) only [cW, kernelRun0_A.sl.v147, kernelRun0_A.sl.v164, kernelRun0_A.sl.v519, kernelRun0_A.sl.v536, kernelRun0_A.sl.v891, kernelRun0_A.sl.v908, kernelRun0_A.sl.v1263, kernelRun0_A.sl.v1280, kernelRun0_A.sl.HS0_7, kernelRun0_A.sl.HS0_5, kernelRun0_A.sl.HS0_3, kernelRun0_A.sl.HS0_1, ↓View.readCov_skip, View.readCov_fill]
    rfl

/-- What the second chunks load is what the first ones stored. -/
theorem mW_one (s : Fin 2) : mW c arg2 harg2 arg3 harg3 arg4 harg4 arg8 x0 x1 x2 s 1 = (proj arg2 harg2 arg3 harg3 arg4 harg4 arg5 harg5 x0 x1 x2 x3).ms s 0 (mW c arg2 harg2 arg3 harg3 arg4 harg4 arg8 x0 x1 x2 s 0) := by
  match s with
  | 0 | 1 =>
    simp (disch := decide) only [mW, kernelRun0_A.sl.v1665, kernelRun0_A.sl.v1718, kernelRun0_A.sl.HS1_4, kernelRun0_A.sl.HS1_3, kernelRun0_A.sl.HS1_2, kernelRun0_A.sl.HS1_1, ↓View.readCov_skip, View.readCov_cons_toLoadRect]
    rfl

theorem cW_one (s : Fin 2) (p : Fin 4) : cW c arg2 harg2 arg3 harg3 arg4 harg4 arg7 arg8 x0 x1 x2 s 1 p = (proj arg2 harg2 arg3 harg3 arg4 harg4 arg5 harg5 x0 x1 x2 x3).st s 0 p (mW c arg2 harg2 arg3 harg3 arg4 harg4 arg8 x0 x1 x2 s 0) (cW c arg2 harg2 arg3 harg3 arg4 harg4 arg7 arg8 x0 x1 x2 s 0 p) := by
  match s, p with
  | 0, 0 | 1, 0 | 0, 1 | 1, 1 | 0, 2 | 1, 2 | 0, 3 | 1, 3 =>
    simp (disch := decide) only [cW, kernelRun0_A.sl.v1741, kernelRun0_A.sl.v1758, kernelRun0_A.sl.v2113, kernelRun0_A.sl.v2130, kernelRun0_A.sl.v2485, kernelRun0_A.sl.v2502, kernelRun0_A.sl.v2857, kernelRun0_A.sl.v2874, kernelRun0_A.sl.HS0_15, kernelRun0_A.sl.HS0_13, kernelRun0_A.sl.HS0_11, kernelRun0_A.sl.HS0_9, kernelRun0_A.sl.HS0_7, kernelRun0_A.sl.HS0_5, kernelRun0_A.sl.HS0_3, kernelRun0_A.sl.HS0_1, ↓View.readCov_skip, View.readCov_cons_toLoadRect]
    rfl

/-- The projections read the blocks themselves. -/
theorem proj_eq : (proj arg2 harg2 arg3 harg3 arg4 harg4 arg5 harg5 x0 x1 x2 x3) = projV x0 x1 x2 x3 := by
  unfold proj projV
  simp only [View.readAt_eq_ld, harg2.read_unread, harg3.read_unread, harg4.read_unread, harg5.read_unread]

include arg5 harg5 in
theorem mW_eq : mW c arg2 harg2 arg3 harg3 arg4 harg4 arg8 x0 x1 x2 = mOf (projV x0 x1 x2 x3) (mAt k0_pay4) := by
  have h := mW_one c arg2 harg2 arg3 harg3 arg4 harg4 arg5 harg5 arg8 x0 x1 x2 x3
  rw [proj_eq] at h
  funext s ci
  match ci with
  | 0 => exact mW_zero ..
  | 1 => rw [h, mW_zero]; rfl

include arg5 harg5 in
theorem cW_eq : cW c arg2 harg2 arg3 harg3 arg4 harg4 arg7 arg8 x0 x1 x2 = cOf (projV x0 x1 x2 x3) (mAt k0_pay4) (cAt k0_pay3) := by
  have h := cW_one c arg2 harg2 arg3 harg3 arg4 harg4 arg5 harg5 arg7 arg8 x0 x1 x2 x3
  rw [proj_eq] at h
  funext s ci p
  match ci with
  | 0 => exact cW_zero ..
  | 1 => rw [h, mW_zero, cW_zero]; rfl

/-- The output block after the body. -/
theorem out_eq : out0_A_4 c i arg2 harg2 arg3 harg3 arg4 harg4 arg5 harg5 arg6 harg6 arg7 harg7 arg8 harg8 hc0 x0 x1 x2 x3 = outG (projV x0 x1 x2 x3) (mOf (projV x0 x1 x2 x3) (mAt k0_pay4)) (cOf (projV x0 x1 x2 x3) (mAt k0_pay4) (cAt k0_pay3)) := by
  have h := pieces c i arg2 harg2 arg3 harg3 arg4 harg4 arg5 harg5 arg6 harg6 arg7 harg7 arg8 harg8 hc0 x0 x1 x2 x3
  rw [proj_eq, mW_eq (arg5 := arg5) (harg5 := harg5) (x3 := x3), cW_eq (arg5 := arg5) (harg5 := harg5) (x3 := x3)] at h
  unfold out0_A_4
  rw [View.read_writes_junk_eq_canon]
  exact funext fun y => View.canon_apply_of_pieces _ _ h.mem y (cover0_A_4 c i arg2 harg2 arg3 harg3 arg4 harg4 arg5 harg5 arg6 harg6 arg7 harg7 arg8 harg8 hc0 x0 x1 x2 x3 y)

/-- The pair states after the body. -/
theorem st_eq : sout0_A_0 c i arg2 harg2 arg3 harg3 arg4 harg4 arg5 harg5 arg6 harg6 arg7 harg7 arg8 harg8 hc0 x0 x1 x2 x3 = stG (projV x0 x1 x2 x3) (mOf (projV x0 x1 x2 x3) (mAt k0_pay4)) (cOf (projV x0 x1 x2 x3) (mAt k0_pay4) (cAt k0_pay3)) := by
  have h := stPieces c i arg2 harg2 arg3 harg3 arg4 harg4 arg5 harg5 arg6 harg6 arg7 harg7 arg8 harg8 hc0 x0 x1 x2 x3
  rw [proj_eq, mW_eq (arg5 := arg5) (harg5 := harg5) (x3 := x3), cW_eq (arg5 := arg5) (harg5 := harg5) (x3 := x3)] at h
  unfold sout0_A_0
  rw [View.read_writes_junk_eq_canon]
  exact canon_take _ 8 _ h fun y => View.cover_of_tiledL ((kernelRun0_A c i arg2 harg2 arg3 harg3 arg4 harg4 arg5 harg5 arg6 harg6 arg7 harg7 arg8 harg8 hc0 x0 x1 x2 x3).2.1.take 8) S1x1x128x256.size (by sl_kernel_rfl) y

/-- The stabilizers after the body. -/
theorem ms_eq : sout0_A_1 c i arg2 harg2 arg3 harg3 arg4 harg4 arg5 harg5 arg6 harg6 arg7 harg7 arg8 harg8 hc0 x0 x1 x2 x3 = msG (projV x0 x1 x2 x3) (mOf (projV x0 x1 x2 x3) (mAt k0_pay4)) := by
  have h := msPieces c i arg2 harg2 arg3 harg3 arg4 harg4 arg5 harg5 arg6 harg6 arg7 harg7 arg8 harg8 hc0 x0 x1 x2 x3
  rw [proj_eq, mW_eq (arg5 := arg5) (harg5 := harg5) (x3 := x3)] at h
  unfold sout0_A_1
  rw [View.read_writes_junk_eq_canon]
  exact canon_take _ 2 _ h fun y => View.cover_of_tiledL ((kernelRun0_A c i arg2 harg2 arg3 harg3 arg4 harg4 arg5 harg5 arg6 harg6 arg7 harg7 arg8 harg8 hc0 x0 x1 x2 x3).2.2.1.take 2) S1x1x128.size (by sl_kernel_rfl) y

end Cert.Mlstm.CaseA

end
-- ==== Proof.Mlstm.CaseB.lean ====
/- Case B of the kernel body: the pieces its run stores are the point's chunks. -/
module

public import proofs.«01_k».proof.Proof.Mlstm.KPoint
public import proofs.«01_k».proof.Proof.Gen.KernelIdeal.Frame

@[expose] public section

set_option maxRecDepth 16384
set_option maxHeartbeats 4000000

noncomputable section

namespace Cert.Mlstm.CaseB

open Cert.KernelIdeal Cert.KernelIdeal.Gen Idealize.ShloMosaic Idealize.ShloMosaic.TcCoe Idealize.SL.Sem Cert.Mlstm

variable {F : FTy → Type} [FloatOps F]
variable (c : Dev nD) (i : grid0.Coords) (arg2 : Memref sig .tc .vmem S2x256x1024 .f32) (harg2 : arg2.IsWhole)
  (arg3 : Memref sig .tc .vmem S1024x3328 .bf16) (harg3 : arg3.IsWhole) (arg4 : Memref sig .tc .vmem S1x256 .f32) (harg4 : arg4.IsWhole)
  (arg5 : Memref sig .tc .vmem S1x1024 .f32) (harg5 : arg5.IsWhole) (arg6 : Memref sig .tc .vmem S2x256x1024 .bf16) (harg6 : arg6.IsWhole)
  (arg7 : Memref sig .tc .vmem S2x4x128x256 .f32) (harg7 : arg7.IsWhole) (arg8 : Memref sig .tc .vmem S2x1x128 .f32) (harg8 : arg8.IsWhole)
  (hc0 : ¬cond0_0 i)
  (x0 : Vec F S2x256x1024 .f32) (x1 : Vec F S1024x3328 .bf16) (x2 : Vec F S1x256 .f32) (x3 : Vec F S1x1024 .f32)
  (xs0 : Vec F S2x4x128x256 .f32) (xs1 : Vec F S2x1x128 .f32)

/-- The projections, over the blocks the body loads. -/
def proj : Proj F :=
  projOf (View.readAt (Elt F) arg2.view (Rect.unit (s := S2x256x1024) ![0, 0, 0] S2x256x1024.size inb_S2x256x1024_S2x256x1024_0_0_0).toLoadRect (harg2.unread x0))
    (View.readAt (Elt F) arg3.view (Rect.unit (s := S1024x3328) ![0, 0] S1024x512.size inb_S1024x3328_S1024x512_0_0).toLoadRect (harg3.unread x1))
    (View.readAt (Elt F) arg3.view (Rect.unit (s := S1024x3328) ![0, 512] S1024x512.size inb_S1024x3328_S1024x512_0_512).toLoadRect (harg3.unread x1))
    (View.readAt (Elt F) arg3.view (Rect.unit (s := S1024x3328) ![0, 1024] S1024x1024.size inb_S1024x3328_S1024x1024_0_1024).toLoadRect (harg3.unread x1))
    (View.readAt (Elt F) arg3.view (Rect.unit (s := S1024x3328) ![0, 2048] S1024x1024.size inb_S1024x3328_S1024x1024_0_2048).toLoadRect (harg3.unread x1))
    (View.readAt (Elt F) arg3.view (Rect.unit (s := S1024x3328) ![0, 3072] S1024x256.size inb_S1024x3328_S1024x256_0_3072).toLoadRect (harg3.unread x1))
    (View.readAt (Elt F) arg4.view (Rect.unit (s := S1x256) ![0, 0] S1x256.size inb_S1x256_S1x256_0_0).toLoadRect (harg4.unread x2))
    (fun h => View.readAt (Elt F) arg5.view (Rect.unit (s := S1x1024) ![0, 128 * h.val] S1x128.size (sl_nw h)).toLoadRect (harg5.unread x3))

/-- The stabilizers the body loads, by sequence and chunk. -/
def mW : Fin 2 → Fin 2 → FVec F S1x1x128 .f32
  | s, 0 => View.readAt (Elt F) arg8.view (Rect.unit (s := S2x1x128) ![s.val, 0, 0] S1x1x128.size (sl_ms s)).toLoadRect (harg8.unread xs1)
  | 0, 1 => kernelRun0_B.sl.v1665 c arg2 harg2 arg3 harg3 arg4 harg4 arg8 harg8 x0 x1 x2 xs1
  | 1, 1 => kernelRun0_B.sl.v1718 c arg2 harg2 arg3 harg3 arg4 harg4 arg8 harg8 x0 x1 x2 xs1

/-- The pair states the body loads, by sequence, chunk and pair. -/
def cW : Fin 2 → Fin 2 → Fin 4 → FVec F S1x1x128x256 .f32
  | s, 0, p => View.readAt (Elt F) arg7.view (Rect.unit (s := S2x4x128x256) ![s.val, p.val, 0, 0] S1x1x128x256.size (sl_cs s p)).toLoadRect (harg7.unread xs0)
  | 0, 1, 0 => kernelRun0_B.sl.v1741 c arg2 harg2 arg3 harg3 arg4 harg4 arg7 harg7 arg8 harg8 x0 x1 x2 xs0 xs1
  | 1, 1, 0 => kernelRun0_B.sl.v1758 c arg2 harg2 arg3 harg3 arg4 harg4 arg7 harg7 arg8 harg8 x0 x1 x2 xs0 xs1
  | 0, 1, 1 => kernelRun0_B.sl.v2113 c arg2 harg2 arg3 harg3 arg4 harg4 arg7 harg7 arg8 harg8 x0 x1 x2 xs0 xs1
  | 1, 1, 1 => kernelRun0_B.sl.v2130 c arg2 harg2 arg3 harg3 arg4 harg4 arg7 harg7 arg8 harg8 x0 x1 x2 xs0 xs1
  | 0, 1, 2 => kernelRun0_B.sl.v2485 c arg2 harg2 arg3 harg3 arg4 harg4 arg7 harg7 arg8 harg8 x0 x1 x2 xs0 xs1
  | 1, 1, 2 => kernelRun0_B.sl.v2502 c arg2 harg2 arg3 harg3 arg4 harg4 arg7 harg7 arg8 harg8 x0 x1 x2 xs0 xs1
  | 0, 1, 3 => kernelRun0_B.sl.v2857 c arg2 harg2 arg3 harg3 arg4 harg4 arg7 harg7 arg8 harg8 x0 x1 x2 xs0 xs1
  | 1, 1, 3 => kernelRun0_B.sl.v2874 c arg2 harg2 arg3 harg3 arg4 harg4 arg7 harg7 arg8 harg8 x0 x1 x2 xs0 xs1

/-- The output's pieces. -/
theorem pieces : View.PiecesOf (outG (proj arg2 harg2 arg3 harg3 arg4 harg4 arg5 harg5 x0 x1 x2 x3) (mW c arg2 harg2 arg3 harg3 arg4 harg4 arg8 harg8 x0 x1 x2 xs1) (cW c arg2 harg2 arg3 harg3 arg4 harg4 arg7 harg7 arg8 harg8 x0 x1 x2 xs0 xs1))
    (kernelRun0_B c i arg2 harg2 arg3 harg3 arg4 harg4 arg5 harg5 arg6 harg6 arg7 harg7 arg8 harg8 hc0 x0 x1 x2 x3 xs0 xs1).1 := by
  have hp := fun (s ci : Fin 2) (h : Fin 8) => outG_eq (proj arg2 harg2 arg3 harg3 arg4 harg4 arg5 harg5 x0 x1 x2 x3) (mW c arg2 harg2 arg3 harg3 arg4 harg4 arg8 harg8 x0 x1 x2 xs1) (cW c arg2 harg2 arg3 harg3 arg4 harg4 arg7 harg7 arg8 harg8 x0 x1 x2 xs0 xs1) s ci h
  exact ⟨fun x => hp 1 1 7 _ x rfl rfl rfl,
    fun x => hp 0 1 7 _ x rfl rfl rfl,
    fun x => hp 1 1 6 _ x rfl rfl rfl,
    fun x => hp 0 1 6 _ x rfl rfl rfl,
    fun x => hp 1 1 5 _ x rfl rfl rfl,
    fun x => hp 0 1 5 _ x rfl rfl rfl,
    fun x => hp 1 1 4 _ x rfl rfl rfl,
    fun x => hp 0 1 4 _ x rfl rfl rfl,
    fun x => hp 1 1 3 _ x rfl rfl rfl,
    fun x => hp 0 1 3 _ x rfl rfl rfl,
    fun x => hp 1 1 2 _ x rfl rfl rfl,
    fun x => hp 0 1 2 _ x rfl rfl rfl,
    fun x => hp 1 1 1 _ x rfl rfl rfl,
    fun x => hp 0 1 1 _ x rfl rfl rfl,
    fun x => hp 1 1 0 _ x rfl rfl rfl,
    fun x => hp 0 1 0 _ x rfl rfl rfl,
    fun x => hp 1 0 7 _ x rfl rfl rfl,
    fun x => hp 0 0 7 _ x rfl rfl rfl,
    fun x => hp 1 0 6 _ x rfl rfl rfl,
    fun x => hp 0 0 6 _ x rfl rfl rfl,
    fun x => hp 1 0 5 _ x rfl rfl rfl,
    fun x => hp 0 0 5 _ x rfl rfl rfl,
    fun x => hp 1 0 4 _ x rfl rfl rfl,
    fun x => hp 0 0 4 _ x rfl rfl rfl,
    fun x => hp 1 0 3 _ x rfl rfl rfl,
    fun x => hp 0 0 3 _ x rfl rfl rfl,
    fun x => hp 1 0 2 _ x rfl rfl rfl,
    fun x => hp 0 0 2 _ x rfl rfl rfl,
    fun x => hp 1 0 1 _ x rfl rfl rfl,
    fun x => hp 0 0 1 _ x rfl rfl rfl,
    fun x => hp 1 0 0 _ x rfl rfl rfl,
    fun x => hp 0 0 0 _ x rfl rfl rfl, trivial⟩

/-- The state's last pieces. -/
theorem stPieces : View.PiecesOf (stG (proj arg2 harg2 arg3 harg3 arg4 harg4 arg5 harg5 x0 x1 x2 x3) (mW c arg2 harg2 arg3 harg3 arg4 harg4 arg8 harg8 x0 x1 x2 xs1) (cW c arg2 harg2 arg3 harg3 arg4 harg4 arg7 harg7 arg8 harg8 x0 x1 x2 xs0 xs1))
    ((kernelRun0_B c i arg2 harg2 arg3 harg3 arg4 harg4 arg5 harg5 arg6 harg6 arg7 harg7 arg8 harg8 hc0 x0 x1 x2 x3 xs0 xs1).2.1.take 8) := by
  have hp := fun (s : Fin 2) (p : Fin 4) => stG_eq (proj arg2 harg2 arg3 harg3 arg4 harg4 arg5 harg5 x0 x1 x2 x3) (mW c arg2 harg2 arg3 harg3 arg4 harg4 arg8 harg8 x0 x1 x2 xs1) (cW c arg2 harg2 arg3 harg3 arg4 harg4 arg7 harg7 arg8 harg8 x0 x1 x2 xs0 xs1) s p
  exact ⟨fun x => hp 1 3 _ x rfl rfl rfl rfl,
    fun x => hp 0 3 _ x rfl rfl rfl rfl,
    fun x => hp 1 2 _ x rfl rfl rfl rfl,
    fun x => hp 0 2 _ x rfl rfl rfl rfl,
    fun x => hp 1 1 _ x rfl rfl rfl rfl,
    fun x => hp 0 1 _ x rfl rfl rfl rfl,
    fun x => hp 1 0 _ x rfl rfl rfl rfl,
    fun x => hp 0 0 _ x rfl rfl rfl rfl, trivial⟩

/-- The stabilizers' last pieces. -/
theorem msPieces : View.PiecesOf (msG (proj arg2 harg2 arg3 harg3 arg4 harg4 arg5 harg5 x0 x1 x2 x3) (mW c arg2 harg2 arg3 harg3 arg4 harg4 arg8 harg8 x0 x1 x2 xs1))
    ((kernelRun0_B c i arg2 harg2 arg3 harg3 arg4 harg4 arg5 harg5 arg6 harg6 arg7 harg7 arg8 harg8 hc0 x0 x1 x2 x3 xs0 xs1).2.2.1.take 2) := by
  have hp := fun (s : Fin 2) => msG_eq (proj arg2 harg2 arg3 harg3 arg4 harg4 arg5 harg5 x0 x1 x2 x3) (mW c arg2 harg2 arg3 harg3 arg4 harg4 arg8 harg8 x0 x1 x2 xs1) s
  exact ⟨fun x => hp 1 _ x rfl rfl, fun x => hp 0 _ x rfl rfl, trivial⟩

/-- What the first chunks load is the carried state. -/
theorem mW_zero (s : Fin 2) : mW c arg2 harg2 arg3 harg3 arg4 harg4 arg8 harg8 x0 x1 x2 xs1 s 0 = mAt xs1 s := by
  show View.readAt (Elt F) arg8.view _ (harg8.unread xs1) = _
  rw [View.readAt_eq_ld, harg8.read_unread]
  rfl

theorem cW_zero (s : Fin 2) (p : Fin 4) : cW c arg2 harg2 arg3 harg3 arg4 harg4 arg7 harg7 arg8 harg8 x0 x1 x2 xs0 xs1 s 0 p = cAt xs0 s p := by
  show View.readAt (Elt F) arg7.view _ (harg7.unread xs0) = _
  rw [View.readAt_eq_ld, harg7.read_unread]
  rfl

/-- What the second chunks load is what the first ones stored. -/
theorem mW_one (s : Fin 2) : mW c arg2 harg2 arg3 harg3 arg4 harg4 arg8 harg8 x0 x1 x2 xs1 s 1 = (proj arg2 harg2 arg3 harg3 arg4 harg4 arg5 harg5 x0 x1 x2 x3).ms s 0 (mW c arg2 harg2 arg3 harg3 arg4 harg4 arg8 harg8 x0 x1 x2 xs1 s 0) := by
  match s with
  | 0 | 1 =>
    simp (disch := decide) only [mW, kernelRun0_B.sl.v1665, kernelRun0_B.sl.v1718, kernelRun0_B.sl.HS1_3, kernelRun0_B.sl.HS1_2, ↓View.readCov_skip, View.readCov_cons_toLoadRect]
    rfl

theorem cW_one (s : Fin 2) (p : Fin 4) : cW c arg2 harg2 arg3 harg3 arg4 harg4 arg7 harg7 arg8 harg8 x0 x1 x2 xs0 xs1 s 1 p = (proj arg2 harg2 arg3 harg3 arg4 harg4 arg5 harg5 x0 x1 x2 x3).st s 0 p (mW c arg2 harg2 arg3 harg3 arg4 harg4 arg8 harg8 x0 x1 x2 xs1 s 0) (cW c arg2 harg2 arg3 harg3 arg4 harg4 arg7 harg7 arg8 harg8 x0 x1 x2 xs0 xs1 s 0 p) := by
  match s, p with
  | 0, 0 | 1, 0 | 0, 1 | 1, 1 | 0, 2 | 1, 2 | 0, 3 | 1, 3 =>
    simp (disch := decide) only [cW, kernelRun0_B.sl.v1741, kernelRun0_B.sl.v1758, kernelRun0_B.sl.v2113, kernelRun0_B.sl.v2130, kernelRun0_B.sl.v2485, kernelRun0_B.sl.v2502, kernelRun0_B.sl.v2857, kernelRun0_B.sl.v2874, kernelRun0_B.sl.HS0_14, kernelRun0_B.sl.HS0_12, kernelRun0_B.sl.HS0_10, kernelRun0_B.sl.HS0_8, ↓View.readCov_skip, View.readCov_cons_toLoadRect]
    rfl

/-- The projections read the blocks themselves. -/
theorem proj_eq : (proj arg2 harg2 arg3 harg3 arg4 harg4 arg5 harg5 x0 x1 x2 x3) = projV x0 x1 x2 x3 := by
  unfold proj projV
  simp only [View.readAt_eq_ld, harg2.read_unread, harg3.read_unread, harg4.read_unread, harg5.read_unread]

include arg5 harg5 in
theorem mW_eq : mW c arg2 harg2 arg3 harg3 arg4 harg4 arg8 harg8 x0 x1 x2 xs1 = mOf (projV x0 x1 x2 x3) (mAt xs1) := by
  have h := mW_one c arg2 harg2 arg3 harg3 arg4 harg4 arg5 harg5 arg8 harg8 x0 x1 x2 x3 xs1
  rw [proj_eq] at h
  funext s ci
  match ci with
  | 0 => exact mW_zero ..
  | 1 => rw [h, mW_zero]; rfl

include arg5 harg5 in
theorem cW_eq : cW c arg2 harg2 arg3 harg3 arg4 harg4 arg7 harg7 arg8 harg8 x0 x1 x2 xs0 xs1 = cOf (projV x0 x1 x2 x3) (mAt xs1) (cAt xs0) := by
  have h := cW_one c arg2 harg2 arg3 harg3 arg4 harg4 arg5 harg5 arg7 harg7 arg8 harg8 x0 x1 x2 x3 xs0 xs1
  rw [proj_eq] at h
  funext s ci p
  match ci with
  | 0 => exact cW_zero ..
  | 1 => rw [h, mW_zero, cW_zero]; rfl

/-- The output block after the body. -/
theorem out_eq : out0_B_4 c i arg2 harg2 arg3 harg3 arg4 harg4 arg5 harg5 arg6 harg6 arg7 harg7 arg8 harg8 hc0 x0 x1 x2 x3 xs0 xs1 = outG (projV x0 x1 x2 x3) (mOf (projV x0 x1 x2 x3) (mAt xs1)) (cOf (projV x0 x1 x2 x3) (mAt xs1) (cAt xs0)) := by
  have h := pieces c i arg2 harg2 arg3 harg3 arg4 harg4 arg5 harg5 arg6 harg6 arg7 harg7 arg8 harg8 hc0 x0 x1 x2 x3 xs0 xs1
  rw [proj_eq, mW_eq (arg5 := arg5) (harg5 := harg5) (x3 := x3), cW_eq (arg5 := arg5) (harg5 := harg5) (x3 := x3)] at h
  unfold out0_B_4
  rw [View.read_writes_junk_eq_canon]
  exact funext fun y => View.canon_apply_of_pieces _ _ h.mem y (cover0_B_4 c i arg2 harg2 arg3 harg3 arg4 harg4 arg5 harg5 arg6 harg6 arg7 harg7 arg8 harg8 hc0 x0 x1 x2 x3 xs0 xs1 y)

/-- The pair states after the body. -/
theorem st_eq : sout0_B_0 c i arg2 harg2 arg3 harg3 arg4 harg4 arg5 harg5 arg6 harg6 arg7 harg7 arg8 harg8 hc0 x0 x1 x2 x3 xs0 xs1 = stG (projV x0 x1 x2 x3) (mOf (projV x0 x1 x2 x3) (mAt xs1)) (cOf (projV x0 x1 x2 x3) (mAt xs1) (cAt xs0)) := by
  have h := stPieces c i arg2 harg2 arg3 harg3 arg4 harg4 arg5 harg5 arg6 harg6 arg7 harg7 arg8 harg8 hc0 x0 x1 x2 x3 xs0 xs1
  rw [proj_eq, mW_eq (arg5 := arg5) (harg5 := harg5) (x3 := x3), cW_eq (arg5 := arg5) (harg5 := harg5) (x3 := x3)] at h
  unfold sout0_B_0
  rw [View.read_writes_junk_eq_canon]
  exact canon_take _ 8 _ h fun y => View.cover_of_tiledL ((kernelRun0_B c i arg2 harg2 arg3 harg3 arg4 harg4 arg5 harg5 arg6 harg6 arg7 harg7 arg8 harg8 hc0 x0 x1 x2 x3 xs0 xs1).2.1.take 8) S1x1x128x256.size (by sl_kernel_rfl) y

/-- The stabilizers after the body. -/
theorem ms_eq : sout0_B_1 c i arg2 harg2 arg3 harg3 arg4 harg4 arg5 harg5 arg6 harg6 arg7 harg7 arg8 harg8 hc0 x0 x1 x2 x3 xs0 xs1 = msG (projV x0 x1 x2 x3) (mOf (projV x0 x1 x2 x3) (mAt xs1)) := by
  have h := msPieces c i arg2 harg2 arg3 harg3 arg4 harg4 arg5 harg5 arg6 harg6 arg7 harg7 arg8 harg8 hc0 x0 x1 x2 x3 xs0 xs1
  rw [proj_eq, mW_eq (arg5 := arg5) (harg5 := harg5) (x3 := x3)] at h
  unfold sout0_B_1
  rw [View.read_writes_junk_eq_canon]
  exact canon_take _ 2 _ h fun y => View.cover_of_tiledL ((kernelRun0_B c i arg2 harg2 arg3 harg3 arg4 harg4 arg5 harg5 arg6 harg6 arg7 harg7 arg8 harg8 hc0 x0 x1 x2 x3 xs0 xs1).2.2.1.take 2) S1x1x128.size (by sl_kernel_rfl) y

end Cert.Mlstm.CaseB

end
-- ==== Proof.Mlstm.KState.lean ====
/- The kernel's carried state over the grid's points, and the array it leaves. -/
module

public import proofs.«01_k».proof.Proof.Mlstm.KBlk
public import proofs.«01_k».proof.Proof.Mlstm.CaseA
public import proofs.«01_k».proof.Proof.Mlstm.CaseB

@[expose] public section

set_option maxRecDepth 16384

noncomputable section

namespace Cert.Mlstm

open Cert.KernelIdeal Cert.KernelIdeal.Gen Cert.KernelIdeal.Value Idealize.ShloMosaic Idealize.ShloMosaic.TcCoe

/-- The stabilizers and the pairs' states of one sequence are the heads' states `S`. -/
structure Holds (ms : FVec Ideal S1x1x128 .f32) (cs : Fin 4 → FVec Ideal S1x1x128x256 .f32) (S : Fin 8 → Spec.St) : Prop where
  m : ∀ h, ms (ix3 0 0 (lane h)) = (S h).m
  C : ∀ h κ d, cs (pairOf h) (ix4 0 0 (half h κ) (vlane d)) = (S h).C κ d
  N : ∀ h κ d, cs (pairOf h) (ix4 0 0 (half h κ) (nlane d)) = (S h).N κ

theorem cast_m (x : FVec Ideal S1x1x128 .f32) (l : Fin 128) : shapeCast S1x128 x shapeCasts_S1x1x128_S1x128 (ix2 0 l) = x (ix3 0 0 l) := by
  pointwise
theorem cast_c (x : FVec Ideal S1x1x128x256 .f32) (r : Fin 128) (d : Fin 256) :
    shapeCast S128x256 x shapeCasts_S1x1x128x256_S128x256 (ix2 r d) = x (ix4 0 0 r d) := by
  pointwise

theorem head_cases (h : Fin 8) (p : Fin 4) (hp : pairOf h = p) : h = headA p ∨ h = headB p := by
  have := congrArg Fin.val hp
  simp only at this
  rcases Nat.mod_two_eq_zero_or_one h.val with e | e
  · exact .inl (Fin.ext (by simp only; omega))
  · exact .inr (Fin.ext (by simp only; omega))

theorem st_v (P : Proj Ideal) (s ci : Fin 2) (m : FVec Ideal S1x1x128 .f32) (c : FVec Ideal S1x1x128x256 .f32)
    (h : Fin 8) (p : Fin 4) (hp : pairOf h = p) (κ : Fin 64) (d : Fin 128) :
    P.st s ci p m c (ix4 0 0 (half h κ) (vlane d)) =
      Spec.stC (hd h (P.ks s ci p)) (vd (P.vs s ci h)) (liH h (P.li s ci)) (lfH h (P.fp s ci)) (m (ix3 0 0 (lane h)))
        (cd h (shapeCast S128x256 c shapeCasts_S1x1x128x256_S128x256)) κ d := by
  rcases head_cases h p hp with rfl | rfl
  · exact (stF_vA p _ _ _ _ _ _ _ κ d).trans (by rw [cast_m])
  · exact (stF_vB p _ _ _ _ _ _ _ κ d).trans (by rw [cast_m])

theorem st_n (P : Proj Ideal) (s ci : Fin 2) (m : FVec Ideal S1x1x128 .f32) (c : FVec Ideal S1x1x128x256 .f32)
    (h : Fin 8) (p : Fin 4) (hp : pairOf h = p) (κ : Fin 64) (d : Fin 128) :
    P.st s ci p m c (ix4 0 0 (half h κ) (nlane d)) =
      Spec.stN (hd h (P.ks s ci p)) (liH h (P.li s ci)) (lfH h (P.fp s ci)) (m (ix3 0 0 (lane h)))
        (nd h (shapeCast S128x256 c shapeCasts_S1x1x128x256_S128x256) d) κ := by
  rcases head_cases h p hp with rfl | rfl
  · exact (stF_nA p _ _ _ _ _ _ _ κ d).trans (by rw [cast_m])
  · exact (stF_nB p _ _ _ _ _ _ _ κ d).trans (by rw [cast_m])

section Chunk

variable {P : Proj Ideal} {s ci : Fin 2} {I : Spec.Inp} {b n : Fin 16} (R : ReadsAs P s ci I b n)
variable {ms : FVec Ideal S1x1x128 .f32} {cs : Fin 4 → FVec Ideal S1x1x128x256 .f32} {S : Fin 8 → Spec.St} (H : Holds ms cs S)

include R H in
/-- What a chunk stores is the layer's output. -/
theorem chunk_out (h : Fin 8) (t d : Fin 128) : P.out s ci h ms (cs (pairOf h)) (ix3 0 t d) =
    Spec.gated (I.o b h n t d) (I.nw ⟨128 * h.val + d.val, by omega⟩)
      (Spec.hv (I.q b h n) (I.k b h n) (I.v b h n) (I.li b h n) (I.lf b h n) (S h).m (S h).C (S h).N t) d := by
  rw [Proj.out, outF_apply (N := (S h).N) (hN := fun κ e => by rw [cast_c, H.N]), cast_m, H.m, R.q, R.k, R.v, R.o, R.li, R.lf, R.w]
  have e : cd h (shapeCast S128x256 (cs (pairOf h)) shapeCasts_S1x1x128x256_S128x256) = (S h).C := by
    funext κ d; rw [cd, cast_c, H.C]
  rw [e]

include R H in
/-- What a chunk leaves is the heads' states one step on. -/
theorem chunk_state : Holds (P.ms s ci ms) (fun p => P.st s ci p ms (cs p)) (fun h => I.step b h n (S h)) where
  m h := by
    rw [Proj.ms, msF_apply, cast_m, H.m, R.li, R.lf]; rfl
  C h κ d := by
    have e : cd h (shapeCast S128x256 (cs (pairOf h)) shapeCasts_S1x1x128x256_S128x256) = (S h).C := by
      funext κ d; rw [cd, cast_c, H.C]
    rw [st_v P s ci ms _ h _ rfl, e, H.m, R.k, R.v, R.li, R.lf]; rfl
  N h κ d := by
    have e : nd h (shapeCast S128x256 (cs (pairOf h)) shapeCasts_S1x1x128x256_S128x256) d = (S h).N := by
      funext κ; rw [nd, cast_c, H.N]
    rw [st_n P s ci ms _ h _ rfl, e, H.m, R.k, R.li, R.lf]; rfl

end Chunk

theorem mAt_apply (x : Vec Ideal S2x1x128 .f32) (s : Fin 2) (l : Fin 128) : mAt x s (ix3 0 0 l) = x (ix3 s 0 l) := by
  pointwise [mAt]
theorem cAt_apply (x : Vec Ideal S2x4x128x256 .f32) (s : Fin 2) (p : Fin 4) (r : Fin 128) (d : Fin 256) :
    cAt x s p (ix4 0 0 r d) = x (ix4 s p r d) := by
  pointwise [cAt]

section Point

variable (P : Proj Ideal) (I : Spec.Inp) (b : Fin 2 → Fin 16) (n : Fin 2 → Fin 16) (R : ∀ s ci, ReadsAs P s ci I (b s) (n ci))
variable (hn : (n 1).val = (n 0).val + 1)
variable (ms : Fin 2 → FVec Ideal S1x1x128 .f32) (cs : Fin 2 → Fin 4 → FVec Ideal S1x1x128x256 .f32)
variable (H : ∀ s, Holds (ms s) (cs s) fun h => I.st (b s) h (n 0).val)

include R hn H in
/-- What each of the point's chunks finds. -/
theorem point_holds (s ci : Fin 2) : Holds (mOf P ms s ci) (cOf P ms cs s ci) fun h => I.st (b s) h (n ci).val := by
  match ci with
  | 0 => exact H s
  | 1 =>
    have := chunk_state (R s 0) (H s)
    simp only [← Spec.Inp.st_succ, ← hn] at this
    exact this

include R hn H in
/-- The block the point leaves. -/
theorem point_out (s ci : Fin 2) (h : Fin 8) (t d : Fin 128) :
    outG P (mOf P ms) (cOf P ms cs) (ix3 s (brow ci t) ⟨128 * h.val + d.val, by omega⟩) = I.out (b s) h (n ci) t d := by
  refine (outG_eq P _ _ s ci h _ (ix3 0 t d) ?_ ?_ ?_).symm.trans (chunk_out (R s ci) (point_holds P I b n R hn ms cs H s ci) h t d)
  · show s.val = s.val + 1 * 0; omega
  · show 128 * ci.val + t.val = 128 * ci.val + 1 * t.val; omega
  · show 128 * h.val + d.val = 128 * h.val + 1 * d.val; omega

include R hn H in
/-- What the next point finds. -/
theorem point_next (s : Fin 2) : Holds (mAt (msG P (mOf P ms)) s) (cAt (stG P (mOf P ms) (cOf P ms cs)) s)
    fun h => I.st (b s) h ((n 1).val + 1) := by
  have := chunk_state (R s 1) (point_holds P I b n R hn ms cs H s 1)
  simp only [← Spec.Inp.st_succ] at this
  refine ⟨fun h => ?_, fun h κ d => ?_, fun h κ d => ?_⟩
  · rw [mAt_apply]; exact this.m h
  · rw [cAt_apply]; exact this.C h κ d
  · rw [cAt_apply]; exact this.N h κ d

end Point

/-- What a first point finds. -/
theorem holds_init (s : Fin 2) : Holds (mAt (k0_pay4 (F := Ideal)) s) (cAt (k0_pay3 (F := Ideal)) s) fun _ => Spec.St.init := by
  refine ⟨fun h => ?_, fun h κ d => ?_, fun h κ d => ?_⟩
  · rw [mAt_apply]
    pointwise [k0_pay4]
    exact ofBits_bot
  · rw [cAt_apply]
    pointwise [k0_pay3]
    rfl
  · rw [cAt_apply]
    pointwise [k0_pay3]
    rfl

variable (m : (ℓ : Loc nD τ sig) → Buf (Elt Ideal) ℓ) (c : Dev nD)

/-- What a point leaves: its output block, and what the next point of the same sequences finds. -/
def Left (t : Fin cfg0.N) (r : Vec Ideal S2x256x1024 .bf16 × Vec Ideal S2x4x128x256 .f32 × Vec Ideal S2x1x128 .f32) : Prop :=
  (∀ s ci h i d, r.1 (ix3 s (brow ci i) ⟨128 * h.val + d.val, by omega⟩) = (inpK m c).out (seqOf t s) h (chunkOf t ci) i d) ∧
    ∀ s, Holds (mAt r.2.2 s) (cAt r.2.1 s) fun h => (inpK m c).st (seqOf t s) h ((chunkOf t 1).val + 1)

/-- A point that finds the states before its chunks leaves what it should. -/
theorem left_of (t : Fin cfg0.N) (ms : Fin 2 → FVec Ideal S1x1x128 .f32) (cs : Fin 2 → Fin 4 → FVec Ideal S1x1x128x256 .f32)
    (H : ∀ s, Holds (ms s) (cs s) fun h => (inpK m c).st (seqOf t s) h (chunkOf t 0).val) :
    Left m c t (outG (pt m c t) (mOf (pt m c t) ms) (cOf (pt m c t) ms cs), stG (pt m c t) (mOf (pt m c t) ms) (cOf (pt m c t) ms cs),
      msG (pt m c t) (mOf (pt m c t) ms)) :=
  ⟨point_out _ _ (seqOf t) (chunkOf t) (pt_reads m c t) rfl ms cs H, point_next _ _ (seqOf t) (chunkOf t) (pt_reads m c t) rfl ms cs H⟩

theorem left_A (t : Fin cfg0.N) (h0 : t.val % 8 = 0) (acc) : Left m c t (stAt0 m c t.val t.isLt acc) := by
  rw [stAt0_A m c t acc h0, CaseA.out_eq, CaseA.st_eq, CaseA.ms_eq]
  refine left_of m c t _ _ fun s => ?_
  have e : (chunkOf t 0).val = 0 := by show 2 * (t.val % 8) + 0 = 0; omega
  rw [e]
  exact holds_init s

theorem left_B (t : Fin cfg0.N) (h0 : ¬t.val % 8 = 0) (acc : Vec Ideal S2x256x1024 .bf16 × Vec Ideal S2x4x128x256 .f32 × Vec Ideal S2x1x128 .f32)
    (H : ∀ s, Holds (mAt acc.2.2 s) (cAt acc.2.1 s) fun h => (inpK m c).st (seqOf t s) h (chunkOf t 0).val) :
    Left m c t (stAt0 m c t.val t.isLt acc) := by
  rw [stAt0_B m c t acc h0, CaseB.out_eq, CaseB.st_eq, CaseB.ms_eq]
  exact left_of m c t _ _ H

/-- Every point leaves what it should. -/
theorem left : ∀ (n : ℕ) (hn : n < cfg0.N), Left m c ⟨n, hn⟩ (outsAt0 m c n hn)
  | 0, hn => by
    rw [outsAt0_zero]
    exact left_A m c ⟨0, hn⟩ rfl _
  | n + 1, hn => by
    rw [outsAt0_succ]
    by_cases h0 : (n + 1) % 8 = 0
    · exact left_A m c ⟨n + 1, hn⟩ h0 _
    · refine left_B m c ⟨n + 1, hn⟩ h0 _ fun s => ?_
      have := (left n (Nat.lt_of_succ_lt hn)).2 s
      have e1 : seqOf ⟨n, Nat.lt_of_succ_lt hn⟩ s = seqOf ⟨n + 1, hn⟩ s := Fin.ext (by simp only; omega)
      have e2 : (chunkOf ⟨n, Nat.lt_of_succ_lt hn⟩ 1).val + 1 = (chunkOf ⟨n + 1, hn⟩ 0).val := by
        show 2 * (n % 8) + 1 + 1 = 2 * ((n + 1) % 8) + 0
        omega
      rw [e1, e2] at this
      exact this

/-- The kernel's result: the layer's output of its arguments. -/
theorem G4_apply (b : Fin 16) (n : Fin 16) (h : Fin 8) (t d : Fin 128) :
    G4 m c (ix3 b (Spec.row n t) ⟨128 * h.val + d.val, by omega⟩) = (inpK m c).out b h n t d := by
  have hp : pt4Of (ix3 b (Spec.row n t) ⟨128 * h.val + d.val, by omega⟩) = 8 * (b.val / 2) + n.val / 2 := by
    show 8 * (b.val / 2 - 0) + 1 * ((128 * n.val + t.val) / 256 - 0) + 1 * ((128 * h.val + d.val) / 1024 - 0) = _
    omega
  have hlt : 8 * (b.val / 2) + n.val / 2 < cfg0.N := lt_of_lt_of_eq (by omega) N_0.symm
  have hl : loc4Of (ix3 b (Spec.row n t) ⟨128 * h.val + d.val, by omega⟩) =
      ix3 (⟨b.val % 2, Nat.mod_lt _ (by decide)⟩ : Fin 2) (brow ⟨n.val % 2, Nat.mod_lt _ (by decide)⟩ t) ⟨128 * h.val + d.val, by omega⟩ := by
    funext a
    apply Fin.ext
    match a with
    | ⟨0, _⟩ => show b.val % 2 = b.val % 2; rfl
    | ⟨1, _⟩ => show (128 * n.val + t.val) % 256 = 128 * (n.val % 2) + t.val; omega
    | ⟨2, _⟩ => show (128 * h.val + d.val) % 1024 = 128 * h.val + d.val; omega
  have key := (left m c _ hlt).1 ⟨b.val % 2, Nat.mod_lt _ (by decide)⟩ ⟨n.val % 2, Nat.mod_lt _ (by decide)⟩ h t d
  rw [outsAt0_sweep] at key
  unfold G4
  rw [dif_pos (hp ▸ hlt), hl]
  simp only [hp]
  refine key.trans ?_
  have e1 : seqOf ⟨8 * (b.val / 2) + n.val / 2, hlt⟩ ⟨b.val % 2, Nat.mod_lt _ (by decide)⟩ = b := Fin.ext (by simp only; omega)
  have e2 : chunkOf ⟨8 * (b.val / 2) + n.val / 2, hlt⟩ ⟨n.val % 2, Nat.mod_lt _ (by decide)⟩ = n := Fin.ext (by simp only; omega)
  rw [e1, e2]

end Cert.Mlstm

end
-- ==== Proof.Mlstm.RPre.lean ====
/- The reference's operations before its loop, in terms of the arguments. -/
module

public import proofs.«01_k».proof.Proof.Gen.ReferenceIdeal.Run
public import proofs.«01_k».proof.Proof.Mlstm.KVal
public import Idealize.ShloMosaic.Lib.Claim
public import Idealize.ShloMosaic.Lib.StableHlo.ReadAt

@[expose] public section

set_option maxRecDepth 16384

noncomputable section

namespace Cert.Mlstm.R

open Cert.ReferenceIdeal Cert.ReferenceIdeal.Gen Idealize.ShloMosaic Idealize.ShloMosaic.TcCoe Idealize.ShloMosaic.StableHlo

variable (V : Valuation τ sig (Elt Ideal))

/-- A gate's logarithm as the reference writes it. -/
theorem lf_neg (y : EReal) :
    -(max (-y) 0 + Ideal.log1p (Ideal.exp (-FloatOps.absf (F := Ideal) (φ := .f32) (-y)))) = Spec.lfOf y := by
  unfold Spec.lfOf Ideal.log1p
  rw [Ideal.absf_def, neg_neg, max_comm (-y) y, zero_sub]
  induction y using EReal.rec with
  | bot => simp [← EReal.coe_one]
  | top => simp [← EReal.coe_one]
  | coe r =>
    rw [EReal.neg_add (Or.inl (ne_of_gt (lt_of_lt_of_le EReal.bot_lt_zero (le_max_right _ _))))
      (Or.inl (by rw [← EReal.coe_neg, ← EReal.coe_zero, ← EReal.coe_strictMono.monotone.map_max]; exact EReal.coe_ne_top _))]
    congr 1
    rw [← EReal.coe_neg, ← EReal.coe_zero, ← EReal.coe_strictMono.monotone.map_max, ← EReal.coe_strictMono.monotone.map_min,
      ← EReal.coe_neg]
    exact congrArg _ (by rw [← min_neg_neg, neg_neg, neg_zero])

/-- The arguments as a valuation holds them. -/
def inp : Spec.Inp where
  x b t e := V (Proc.devRef .tc main_arg0) (ix3 b t e)
  w e k := V (Proc.devRef .tc main_arg1) (ix3 0 e k)
  ib h := V (Proc.devRef .tc main_arg2) (ix2 0 h)
  fb h := V (Proc.devRef .tc main_arg3) (ix2 0 h)
  nw k := V (Proc.devRef .tc main_arg4) (ix2 0 k)

/-- The contents after the projections and the gates. -/
def eA : Valuation τ sig (Elt Ideal) := after hostOps0_2 (after hostOps0_1 (after hostOps0 V))

/-- Two projections at equal indices. -/
theorem pj_at (b : Fin 16) {r r' : Fin 2048} {c c' : Fin 8224} (hr : r.val = r'.val) (hc : c.val = c'.val) :
    ∑ e : Fin 1024, HMul.hMul (α := EReal) (V (Proc.devRef .tc main_arg0) (ix3 b r e)) (V (Proc.devRef .tc main_arg1) (ix3 0 e c))
      = (inp V).pj b r' c' := by
  rw [Fin.ext hr, Fin.ext hc]; rfl

theorem a_q (b n : Fin 16) (t : Fin 128) (h : Fin 8) (κ : Fin 64) :
    @Eq EReal (eA V (Proc.devRef .tc main_v18) (ix5 b n t h κ)) ((inp V).q b h n t κ) := by
  unfold eA
  after_reads_at
  exact congrArg (· * _) (pj_at V b (by simp only; omega) (by simp only; omega))
theorem a_k (b n : Fin 16) (t : Fin 128) (h : Fin 8) (κ : Fin 64) :
    @Eq EReal (eA V (Proc.devRef .tc main_v19) (ix5 b n t h κ)) ((inp V).k b h n t κ) := by
  unfold eA
  after_reads_at
  exact pj_at V b (by simp only; omega) (by simp only; omega)
theorem a_v (b n : Fin 16) (t : Fin 128) (h : Fin 8) (d : Fin 128) :
    @Eq EReal (eA V (Proc.devRef .tc main_v20) (ix5 b n t h d)) ((inp V).v b h n t d) := by
  unfold eA
  after_reads_at
  exact pj_at V b (by simp only; omega) (by simp only; omega)
theorem a_o (b n : Fin 16) (t : Fin 128) (h : Fin 8) (d : Fin 128) :
    @Eq EReal (eA V (Proc.devRef .tc main_v8) (ix3 b (Spec.row n t) ⟨128 * h.val + d.val, by omega⟩)) ((inp V).o b h n t d) := by
  unfold eA
  after_reads_at
  exact pj_at V b rfl rfl
theorem a_li (b n : Fin 16) (t : Fin 128) (h : Fin 8) :
    @Eq EReal (eA V (Proc.devRef .tc main_v25) (ix4 b n h t)) ((inp V).li b h n t) := by
  unfold eA
  after_reads_at
  exact congrArg (· + _) (pj_at V b (by simp only; omega) rfl)
theorem a_nw (j : Fin 1024) : @Eq EReal (eA V (Proc.devRef .tc main_v15) (ix1 j)) ((inp V).nw j) := by
  unfold eA
  after_reads_at
  rfl
theorem a_lf (b n : Fin 16) (t : Fin 128) (h : Fin 8) :
    @Eq EReal (eA V (Proc.devRef .tc main_v31) (ix4 b n h t)) ((inp V).lf b h n t) := by
  unfold eA
  after_reads_at
  rw [pj_at V b (r' := Spec.row n t) (c' := ⟨6168 + h.val, by omega⟩) (by simp only; omega) rfl]
  rw [if_neg (fun hn => hn rfl)]
  exact lf_neg _

theorem ix4_one (a b c : Fin 1) (s : Fin 128) : ix4 (n0 := 1) (n1 := 1) (n2 := 1) 0 0 0 s = ix4 a b c s := by
  rw [Subsingleton.elim a 0, Subsingleton.elim b 0, Subsingleton.elim c 0]

/-- The positions of a window of 128 on the last axis. -/
def winEquiv : Fin 128 ≃ (⟨4, ![1, 1, 1, 128]⟩ : Shape).Idx where
  toFun s := ix4 0 0 0 s
  invFun i := i 3
  left_inv _ := rfl
  right_inv i := (ix4_one (i 0) (i 1) (i 2) (i 3)).trans (ix4_eta i)

/-- A running sum written as a sum over windows of 128, the row filled with zeros on its low side. -/
theorem window_sum (x : FVec Ideal S16x16x8x128 .f32) (init : S_.Idx → EReal)
    (h : S16x16x8x128.ReduceWindows ![1, 1, 1, 128] ![1, 1, 1, 1] ![0, 0, 0, 127] ![0, 0, 0, 0] S16x16x8x128) (hu : 0 < S_.numel)
    (h0 : init (Shape.Idx.first hu) = 0) (b n : Fin 16) (g : Fin 8) (t : Fin 128) :
    Host.reduceWindowAdd (F := Ideal) ![1, 1, 1, 128] ![1, 1, 1, 1] ![0, 0, 0, 127] ![0, 0, 0, 0] x init h hu (ix4 b n g t)
      = Spec.fc (fun s => x (ix4 b n g s)) t := by
  show Ideal.hostReduceWindowAdd ![1, 1, 1, 128] ![1, 1, 1, 1] ![0, 0, 0, 127] ![0, 0, 0, 0] h x (init (Shape.Idx.first hu)) (ix4 b n g t) = _
  rw [h0]
  unfold Ideal.hostReduceWindowAdd Host.reduceWindow
  dsimp only
  rw [← List.foldl_map (g := fun r x : EReal => r + x), ← List.sum_eq_foldl, ← Fin.sum_univ_def]
  rw [← Equiv.sum_comp ((winEquiv.trans (Shape.rowMajor _)))]
  simp only [Equiv.trans_apply, Equiv.symm_apply_apply]
  have hs : ∀ s : Fin 128, ((∀ a : Fin 4, (![0, 0, 0, 127] : Fin 4 → ℕ) a ≤ (ix4 b n g t a).val * (![1, 1, 1, 1] : Fin 4 → ℕ) a + (winEquiv s a).val
      ∧ (ix4 b n g t a).val * (![1, 1, 1, 1] : Fin 4 → ℕ) a + (winEquiv s a).val - (![0, 0, 0, 127] : Fin 4 → ℕ) a < S16x16x8x128.size a) ↔ 127 ≤ t.val + s.val) := by
    intro s
    constructor
    · intro H
      have h3 : 127 ≤ t.val * 1 + s.val := (H 3).1
      omega
    · intro hc a
      match a with
      | ⟨0, _⟩ => exact ⟨Nat.zero_le _, by show b.val * 1 + 0 - 0 < 16; omega⟩
      | ⟨1, _⟩ => exact ⟨Nat.zero_le _, by show n.val * 1 + 0 - 0 < 16; omega⟩
      | ⟨2, _⟩ => exact ⟨Nat.zero_le _, by show g.val * 1 + 0 - 0 < 8; omega⟩
      | ⟨3, _⟩ => exact ⟨by show 127 ≤ t.val * 1 + s.val; omega, by show t.val * 1 + s.val - 127 < 128; omega⟩
  have ht : ∀ s : Fin 128, (127 ≤ t.val + s.val) → t.val + s.val - 127 < 128 := fun s _ => by omega
  refine Eq.trans (b := ∑ s : Fin 128, if hc : 127 ≤ t.val + s.val then x (ix4 b n g ⟨t.val + s.val - 127, ht s hc⟩) else 0) ?_ ?_
  · refine Finset.sum_congr rfl fun s _ => ?_
    by_cases hc : 127 ≤ t.val + s.val
    · rw [dif_pos hc]
      refine (dif_pos ((hs s).2 hc)).trans (congrArg x (funext fun a => Fin.ext ?_))
      match a with
      | ⟨0, _⟩ => show b.val * 1 + 0 - 0 = b.val; omega
      | ⟨1, _⟩ => show n.val * 1 + 0 - 0 = n.val; omega
      | ⟨2, _⟩ => show g.val * 1 + 0 - 0 = g.val; omega
      | ⟨3, _⟩ => show t.val * 1 + s.val - 127 = t.val + s.val - 127; omega
    · rw [dif_neg hc]
      exact dif_neg (fun H => hc ((hs s).1 H))
  · unfold Spec.fc
    rw [← Finset.sum_filter]
    symm
    have hd : ∀ s : Fin 128, (if hc : 127 ≤ t.val + s.val then x (ix4 b n g ⟨t.val + s.val - 127, ht s hc⟩) else 0)
        = if 127 ≤ t.val + s.val then x (ix4 b n g ⟨t.val + s.val - 127, by omega⟩) else 0 := fun s => by
      split <;> rfl
    simp only [hd]
    rw [← Finset.sum_filter]
    refine Finset.sum_bij' (fun s hs => (⟨s.val + 127 - t.val, by
        have : s ≤ t := (Finset.mem_filter.mp hs).2
        have : s.val ≤ t.val := this
        omega⟩ : Fin 128)) (fun s _ => (⟨t.val + s.val - 127, by omega⟩ : Fin 128)) ?_ ?_ ?_ ?_ ?_
    · intro s hs
      exact Finset.mem_filter.mpr ⟨Finset.mem_univ _, by simp only; omega⟩
    · intro s hs
      exact Finset.mem_filter.mpr ⟨Finset.mem_univ _, Fin.le_def.mpr (by simp only; omega)⟩
    · intro s hs
      exact Fin.ext (by simp only; omega)
    · intro s hs
      have := (Finset.mem_filter.mp hs).2
      exact Fin.ext (by simp only; omega)
    · intro s hs
      exact congrArg (fun i => x (ix4 b n g i)) (Fin.ext (by simp only; omega))

theorem tri_apply2 (t s : Fin 128) (a b : EReal) :
    Scalar.select (Scalar.select (IntOp.cmpi CmpIPredicate.sge (BitVec.ofNat 32 ↑t) (BitVec.ofNat 32 ↑s)) 1#1 0#1) a b
      = if s ≤ t then a else b := by
  rw [WordCmp.cmpi_sge_ofNat (by omega) (by omega)]
  by_cases h : s ≤ t
  · rw [if_pos h, decide_eq_true (p := s.val ≤ t.val) h]; rfl
  · rw [if_neg h, decide_eq_false (p := s.val ≤ t.val) h]; rfl

/-- The contents after the running sums and the causal weights. -/
def eB : Valuation τ sig (Elt Ideal) := after hostOps0_7 (after hostOps0_6 (after hostOps0_5 (after hostOps0_4 (after hostOps0_3 V))))

theorem b_fc (lf : Fin 128 → EReal) (b n : Fin 16) (h : Fin 8)
    (hlf : ∀ t, V (Proc.devRef .tc main_v31) (ix4 b n h t) = lf t) (t : Fin 128) :
    @Eq EReal (eB V (Proc.devRef .tc main_v32) (ix4 b n h t)) (Spec.fc lf t) := by
  unfold eB
  after_reads_at
  rw [window_sum _ _ _ _ Ideal.ofBits_zero_f32]
  exact congrArg (Spec.fc · t) (funext hlf)
theorem b_ld (li lf : Fin 128 → EReal) (b n : Fin 16) (h : Fin 8)
    (hlf : ∀ t, V (Proc.devRef .tc main_v31) (ix4 b n h t) = lf t) (hli : ∀ t, V (Proc.devRef .tc main_v25) (ix4 b n h t) = li t) (t s : Fin 128) :
    @Eq EReal (eB V (Proc.devRef .tc main_v43) (ix5 b n h t s)) (Spec.ld li lf t s) := by
  unfold eB
  after_reads_at
  rw [window_sum _ _ _ _ Ideal.ofBits_zero_f32, window_sum _ _ _ _ Ideal.ofBits_zero_f32, hli s]
  simp only [hlf, IntOp.addi, BitVec.add_zero]
  rw [tri_apply2]
  refine if_congr Iff.rfl ?_ ofBits_bot
  rw [Spec.gk, sub_eq_add_neg, sub_eq_add_neg, add_assoc, add_comm (-_)]
end Cert.Mlstm.R
end
-- ==== Proof.Mlstm.RIn.lean ====
/- What the reference's loop reads, in terms of the layer's mathematics. -/
module

public import proofs.«01_k».proof.Proof.Mlstm.RPre

@[expose] public section

set_option maxRecDepth 16384

noncomputable section

namespace Cert.Mlstm.R

open Cert.ReferenceIdeal Cert.ReferenceIdeal.Gen Idealize.ShloMosaic Idealize.ShloMosaic.TcCoe Idealize.ShloMosaic.StableHlo

variable (V : Valuation τ sig (Elt Ideal))

/-- The chunk's total less a running sum, with the input gate added. -/
theorem end_apply (a x y : EReal) : a - x + y = a + (y - x) := by
  rw [sub_eq_add_neg, sub_eq_add_neg, add_assoc, add_comm (-x)]

theorem ml_eq (li lf : Fin 128 → EReal) :
    Finset.univ.fold max (Ideal.ofBits .f32 0xFF800000#32) (fun s => Spec.fc lf 127 - Spec.fc lf s + li s) = Spec.ml li lf := by
  rw [ofBits_bot]
  simp only [end_apply]
  rfl

theorem we_eq (li lf : Fin 128 → EReal) (s : Fin 128) :
    Ideal.exp (Spec.fc lf 127 - Spec.fc lf s + li s - Spec.ml li lf) = Spec.we li lf s := by
  rw [end_apply, Spec.we, Spec.gk, Spec.ft, sub_eq_add_neg (Spec.fc lf 127), add_comm (Spec.fc lf 127), sub_eq_add_neg, add_assoc]

section Chunk

variable (li lf : Fin 128 → EReal) (k : Fin 128 → Fin 64 → EReal) (v : Fin 128 → Fin 128 → EReal) (b n : Fin 16) (h : Fin 8)

theorem c_ml (hfc : ∀ t, V (Proc.devRef .tc main_v32) (ix4 b n h t) = Spec.fc lf t)
    (hli : ∀ t, V (Proc.devRef .tc main_v25) (ix4 b n h t) = li t) :
    @Eq EReal (after hostOps0_8 V (Proc.devRef .tc main_v71_2) (ix3 n b h)) (Spec.ml li lf) := by
  after_reads_simp
  simp only [id_eq]
  clean_types
  pointwise
  simp only [hfc, hli]
  exact ml_eq li lf
theorem c_ft (hfc : ∀ t, V (Proc.devRef .tc main_v32) (ix4 b n h t) = Spec.fc lf t) :
    @Eq EReal (after hostOps0_8 V (Proc.devRef .tc main_v71_3) (ix3 n b h)) (Spec.ft lf) := by
  after_reads_simp
  simp only [id_eq]
  clean_types
  pointwise
  exact hfc 127
theorem c_n (hfc : ∀ t, V (Proc.devRef .tc main_v32) (ix4 b n h t) = Spec.fc lf t)
    (hli : ∀ t, V (Proc.devRef .tc main_v25) (ix4 b n h t) = li t)
    (hk : ∀ t κ, V (Proc.devRef .tc main_v19) (ix5 b n t h κ) = k t κ) (κ : Fin 64) :
    @Eq EReal (after hostOps0_8 V (Proc.devRef .tc main_v71_1) (ix4 n b h κ)) (∑ s, k s κ * Spec.we li lf s) := by
  after_reads_simp
  simp only [id_eq]
  clean_types
  pointwise
  simp only [hfc, hli, hk, ml_eq, we_eq]
  exact Finset.sum_congr rfl fun s _ => mul_comm _ _
theorem c_c (hfc : ∀ t, V (Proc.devRef .tc main_v32) (ix4 b n h t) = Spec.fc lf t)
    (hli : ∀ t, V (Proc.devRef .tc main_v25) (ix4 b n h t) = li t)
    (hk : ∀ t κ, V (Proc.devRef .tc main_v19) (ix5 b n t h κ) = k t κ)
    (hv : ∀ t d, V (Proc.devRef .tc main_v20) (ix5 b n t h d) = v t d) (κ : Fin 64) (d : Fin 128) :
    @Eq EReal (after hostOps0_8 V (Proc.devRef .tc main_v71_0) (ix5 n b h κ d)) (∑ s, k s κ * Spec.we li lf s * v s d) := by
  after_reads_simp
  simp only [id_eq]
  clean_types
  pointwise
  simp only [hfc, hli, hk, hv, ml_eq, we_eq]
  exact Finset.sum_congr rfl fun s _ => congrArg (· * _) (mul_comm _ _)

end Chunk

theorem c_5 (b : Fin 16) (h : Fin 8) (κ : Fin 64) (d : Fin 128) :
    @Eq EReal (after hostOps0_8 V (Proc.devRef .tc main_v71_5) (ix4 b h κ d)) 0 := by
  after_reads_simp
  simp only [id_eq]
  clean_types
  pointwise
theorem c_6 (b : Fin 16) (h : Fin 8) (κ : Fin 64) :
    @Eq EReal (after hostOps0_8 V (Proc.devRef .tc main_v71_6) (ix3 b h κ)) 0 := by
  after_reads_simp
  simp only [id_eq]
  clean_types
  pointwise
theorem c_7 (b : Fin 16) (h : Fin 8) :
    @Eq EReal (after hostOps0_8 V (Proc.devRef .tc main_v71_7) (ix2 b h)) ⊥ := by
  after_reads_simp
  simp only [id_eq]
  clean_types
  pointwise
  exact ofBits_bot

end Cert.Mlstm.R
end
-- ==== Proof.Mlstm.RLoop.lean ====
/- The reference's loop: one trip steps the state, and the trips leave the states they started from. -/
module

public import proofs.«01_k».proof.Proof.Mlstm.RPre

@[expose] public section

set_option maxRecDepth 16384

noncomputable section

namespace Cert.Mlstm.R

open Cert.ReferenceIdeal Cert.ReferenceIdeal.Gen Cert.ReferenceIdeal.Value Idealize.ShloMosaic Idealize.ShloMosaic.TcCoe Idealize.ShloMosaic.StableHlo

theorem toInt_chunk : ∀ n : Fin 16, (BitVec.ofNat 32 n.val).toInt = (n.val : ℤ) := by decide

theorem fits3 (n : Fin 16) : S16x16x8.Slices ![n.val, 0, 0] S1x16x8 := ⟨rfl, fun a => by
  match a with
  | ⟨0, _⟩ => show n.val + 1 ≤ 16; omega
  | ⟨1, _⟩ => show 0 + 16 ≤ 16; omega
  | ⟨2, _⟩ => show 0 + 8 ≤ 8; omega⟩
theorem fits4 (n : Fin 16) : S16x16x8x64.Slices ![n.val, 0, 0, 0] S1x16x8x64 := ⟨rfl, fun a => by
  match a with
  | ⟨0, _⟩ => show n.val + 1 ≤ 16; omega
  | ⟨1, _⟩ => show 0 + 16 ≤ 16; omega
  | ⟨2, _⟩ => show 0 + 8 ≤ 8; omega
  | ⟨3, _⟩ => show 0 + 64 ≤ 64; omega⟩
theorem fits5 (n : Fin 16) : S16x16x8x64x128.Slices ![n.val, 0, 0, 0, 0] S1x16x8x64x128 := ⟨rfl, fun a => by
  match a with
  | ⟨0, _⟩ => show n.val + 1 ≤ 16; omega
  | ⟨1, _⟩ => show 0 + 16 ≤ 16; omega
  | ⟨2, _⟩ => show 0 + 8 ≤ 8; omega
  | ⟨3, _⟩ => show 0 + 64 ≤ 64; omega
  | ⟨4, _⟩ => show 0 + 128 ≤ 128; omega⟩

section Trip

variable (X : Valuation τ sig (Elt Ideal)) (n : Fin 16) (hX : X (Proc.devRef .tc main_v71_4) = fun _ => BitVec.ofNat 32 n.val)

include hX

theorem start3 (a : Fin 3) : (((![X (Proc.devRef .tc main_v71_4), constantI S_ 32 0#32, constantI S_ 32 0#32] : Fin 3 → (⟨S_, .i32⟩ : BufTy).Contents (Elt Ideal))) a (Shape.Idx.first h_S_)).toInt
    = ((![n.val, 0, 0] a : ℕ) : ℤ) := by
  rw [hX]
  match a with
  | ⟨0, _⟩ => exact toInt_chunk n
  | ⟨1, _⟩ => rfl
  | ⟨2, _⟩ => rfl
theorem start4 (a : Fin 4) : (((![X (Proc.devRef .tc main_v71_4), constantI S_ 32 0#32, constantI S_ 32 0#32, constantI S_ 32 0#32] : Fin 4 → (⟨S_, .i32⟩ : BufTy).Contents (Elt Ideal))) a (Shape.Idx.first h_S_)).toInt
    = ((![n.val, 0, 0, 0] a : ℕ) : ℤ) := by
  rw [hX]
  match a with
  | ⟨0, _⟩ => exact toInt_chunk n
  | ⟨1, _⟩ => rfl
  | ⟨2, _⟩ => rfl
  | ⟨3, _⟩ => rfl
theorem start5 (a : Fin 5) : (((![X (Proc.devRef .tc main_v71_4), constantI S_ 32 0#32, constantI S_ 32 0#32, constantI S_ 32 0#32, constantI S_ 32 0#32] : Fin 5 → (⟨S_, .i32⟩ : BufTy).Contents (Elt Ideal))) a (Shape.Idx.first h_S_)).toInt
    = ((![n.val, 0, 0, 0, 0] a : ℕ) : ℤ) := by
  rw [hX]
  match a with
  | ⟨0, _⟩ => exact toInt_chunk n
  | ⟨1, _⟩ => rfl
  | ⟨2, _⟩ => rfl
  | ⟨3, _⟩ => rfl
  | ⟨4, _⟩ => rfl

variable (b : Fin 16) (h : Fin 8)

theorem t_m : @Eq EReal (res_main_while0b_v135 X (ix2 b h)) (X (Proc.devRef .tc main_v71_2) (ix3 n b h)) := by
  unfold res_main_while0b_v135
  clean_types
  rw [WordCmp.dynamicSlice_eq_extract _ _ _ _ _ (fits3 n) (start3 X n hX)]
  pointwise
theorem t_f : @Eq EReal (res_main_while0b_v136 X (ix2 b h)) (X (Proc.devRef .tc main_v71_3) (ix3 n b h)) := by
  unfold res_main_while0b_v136
  clean_types
  rw [WordCmp.dynamicSlice_eq_extract _ _ _ _ _ (fits3 n) (start3 X n hX)]
  pointwise

theorem t_4 : step_main_v71_4 X = fun _ => BitVec.ofNat 32 (n.val + 1) := by
  unfold step_main_v71_4
  rw [hX]
  funext i
  exact (BitVec.ofNat_add n.val 1).symm

variable (li lf : Fin 128 → EReal) (S : Spec.St) (hml : X (Proc.devRef .tc main_v71_2) (ix3 n b h) = Spec.ml li lf)
  (hft : X (Proc.devRef .tc main_v71_3) (ix3 n b h) = Spec.ft lf) (hm : X (Proc.devRef .tc main_v71_7) (ix2 b h) = S.m)

include hml hft hm

theorem t_7 : @Eq EReal (step_main_v71_7 X (ix2 b h)) (Spec.mn li lf S.m) := by
  unfold step_main_v71_7 res_main_while0b_v138
  simp only [id_eq]
  pointwise
  rw [t_m X n hX, t_f X n hX, hml, hft, hm]
  rfl
theorem t_sp : @Eq EReal (res_main_while0b_v141 X (ix2 b h)) (Spec.sp li lf S.m) := by
  unfold res_main_while0b_v141 res_main_while0b_v138
  pointwise
  rw [t_m X n hX, t_f X n hX, hml, hft, hm]
  rfl
theorem t_sl : @Eq EReal (res_main_while0b_v143 X (ix2 b h)) (Spec.sl li lf S.m) := by
  unfold res_main_while0b_v143 res_main_while0b_v138
  pointwise
  rw [t_m X n hX, t_f X n hX, hml, hft, hm]
  rfl
theorem t_6 (k : Fin 128 → Fin 64 → EReal) (κ : Fin 64)
    (hc : X (Proc.devRef .tc main_v71_1) (ix4 n b h κ) = ∑ s, k s κ * Spec.we li lf s)
    (hN : X (Proc.devRef .tc main_v71_6) (ix3 b h κ) = S.N κ) :
    @Eq EReal (step_main_v71_6 X (ix3 b h κ)) (Spec.stN k li lf S.m S.N κ) := by
  unfold step_main_v71_6
  clean_types
  rw [WordCmp.dynamicSlice_eq_extract _ _ _ _ _ (fits4 n) (start4 X n hX)]
  simp only [id_eq]
  pointwise
  rw [t_sp X n hX b h li lf S hml hft hm, t_sl X n hX b h li lf S hml hft hm, hc, hN, mul_comm (Spec.sp _ _ _)]
  rfl
theorem t_5 (k : Fin 128 → Fin 64 → EReal) (v : Fin 128 → Fin 128 → EReal) (κ : Fin 64) (d : Fin 128)
    (hc : X (Proc.devRef .tc main_v71_0) (ix5 n b h κ d) = ∑ s, k s κ * Spec.we li lf s * v s d)
    (hC : X (Proc.devRef .tc main_v71_5) (ix4 b h κ d) = S.C κ d) :
    @Eq EReal (step_main_v71_5 X (ix4 b h κ d)) (Spec.stC k v li lf S.m S.C κ d) := by
  unfold step_main_v71_5
  clean_types
  rw [WordCmp.dynamicSlice_eq_extract _ _ _ _ _ (fits5 n) (start5 X n hX)]
  simp only [id_eq]
  pointwise
  rw [t_sp X n hX b h li lf S hml hft hm, t_sl X n hX b h li lf S hml hft hm, hc, hC, mul_comm (Spec.sp _ _ _)]
  rfl

omit hml hft hm

theorem t_8 (n' : Fin 16) (κ : Fin 64) (d : Fin 128) : @Eq EReal (step_main_v71_8 X (ix5 n' b h κ d))
    (if n' = n then X (Proc.devRef .tc main_v71_5) (ix4 b h κ d) else X (Proc.devRef .tc main_v71_8) (ix5 n' b h κ d)) := by
  unfold step_main_v71_8
  clean_types
  rw [WordCmp.dynamicUpdateSlice_eq_update _ _ _ _ _ (fits5 n) (start5 X n hX)]
  simp only [id_eq]
  pointwise
  by_cases he : n' = n
  · rw [dif_pos (by subst he; omega), if_pos he]
  · rw [dif_neg (fun H => he (Fin.ext (by omega))), if_neg he]

theorem t_9 (n' : Fin 16) (κ : Fin 64) : @Eq EReal (step_main_v71_9 X (ix4 n' b h κ))
    (if n' = n then X (Proc.devRef .tc main_v71_6) (ix3 b h κ) else X (Proc.devRef .tc main_v71_9) (ix4 n' b h κ)) := by
  unfold step_main_v71_9
  clean_types
  rw [WordCmp.dynamicUpdateSlice_eq_update _ _ _ _ _ (fits4 n) (start4 X n hX)]
  simp only [id_eq]
  pointwise
  by_cases he : n' = n
  · rw [dif_pos (by subst he; omega), if_pos he]
  · rw [dif_neg (fun H => he (Fin.ext (by omega))), if_neg he]
theorem t_10 (n' : Fin 16) : @Eq EReal (step_main_v71_10 X (ix3 n' b h))
    (if n' = n then X (Proc.devRef .tc main_v71_7) (ix2 b h) else X (Proc.devRef .tc main_v71_10) (ix3 n' b h)) := by
  unfold step_main_v71_10
  clean_types
  rw [WordCmp.dynamicUpdateSlice_eq_update _ _ _ _ _ (fits3 n) (start3 X n hX)]
  simp only [id_eq]
  pointwise
  by_cases he : n' = n
  · rw [dif_pos (by subst he; omega), if_pos he]
  · rw [dif_neg (fun H => he (Fin.ext (by omega))), if_neg he]

end Trip

/-- What every trip reads: the chunks' contributions, their stabilizers and their totals. -/
structure Entry (I : Spec.Inp) (X : Valuation τ sig (Elt Ideal)) : Prop where
  c : ∀ (n b : Fin 16) (h : Fin 8) (κ : Fin 64) (d : Fin 128), @Eq EReal (X (Proc.devRef .tc main_v71_0) (ix5 n b h κ d))
    (∑ s, I.k b h n s κ * Spec.we (I.li b h n) (I.lf b h n) s * I.v b h n s d)
  n : ∀ (n b : Fin 16) (h : Fin 8) (κ : Fin 64), @Eq EReal (X (Proc.devRef .tc main_v71_1) (ix4 n b h κ))
    (∑ s, I.k b h n s κ * Spec.we (I.li b h n) (I.lf b h n) s)
  ml : ∀ (n b : Fin 16) (h : Fin 8), @Eq EReal (X (Proc.devRef .tc main_v71_2) (ix3 n b h)) (Spec.ml (I.li b h n) (I.lf b h n))
  ft : ∀ (n b : Fin 16) (h : Fin 8), @Eq EReal (X (Proc.devRef .tc main_v71_3) (ix3 n b h)) (Spec.ft (I.lf b h n))

/-- The contents before trip `j`: the state before chunk `j`, and the states the trips before it started from. -/
structure Inv (I : Spec.Inp) (X : Valuation τ sig (Elt Ideal)) (j : ℕ) : Prop where
  entry : Entry I X
  ctr : X (Proc.devRef .tc main_v71_4) = fun _ => BitVec.ofNat 32 j
  C : ∀ (b : Fin 16) (h : Fin 8) (κ : Fin 64) (d : Fin 128), @Eq EReal (X (Proc.devRef .tc main_v71_5) (ix4 b h κ d)) ((I.st b h j).C κ d)
  N : ∀ (b : Fin 16) (h : Fin 8) (κ : Fin 64), @Eq EReal (X (Proc.devRef .tc main_v71_6) (ix3 b h κ)) ((I.st b h j).N κ)
  m : ∀ (b : Fin 16) (h : Fin 8), @Eq EReal (X (Proc.devRef .tc main_v71_7) (ix2 b h)) (I.st b h j).m
  pC : ∀ (n b : Fin 16) (h : Fin 8) (κ : Fin 64) (d : Fin 128), n.val < j →
    @Eq EReal (X (Proc.devRef .tc main_v71_8) (ix5 n b h κ d)) ((I.st b h n.val).C κ d)
  pN : ∀ (n b : Fin 16) (h : Fin 8) (κ : Fin 64), n.val < j →
    @Eq EReal (X (Proc.devRef .tc main_v71_9) (ix4 n b h κ)) ((I.st b h n.val).N κ)
  pm : ∀ (n b : Fin 16) (h : Fin 8), n.val < j → @Eq EReal (X (Proc.devRef .tc main_v71_10) (ix3 n b h)) (I.st b h n.val).m

theorem inv_step (I : Spec.Inp) (X : Valuation τ sig (Elt Ideal)) (n : Fin 16) (H : Inv I X n.val) : Inv I (STEP X) (n.val + 1) where
  entry := ⟨fun n' b h κ d => by rw [STEP_main_v71_0]; exact H.entry.c n' b h κ d,
    fun n' b h κ => by rw [STEP_main_v71_1]; exact H.entry.n n' b h κ,
    fun n' b h => by rw [STEP_main_v71_2]; exact H.entry.ml n' b h,
    fun n' b h => by rw [STEP_main_v71_3]; exact H.entry.ft n' b h⟩
  ctr := by rw [STEP_main_v71_4]; exact t_4 X n H.ctr
  C b h κ d := by
    rw [STEP_main_v71_5, I.st_succ]
    exact t_5 X n H.ctr b h _ _ _ (H.entry.ml n b h) (H.entry.ft n b h) (H.m b h) _ _ κ d (H.entry.c n b h κ d) (H.C b h κ d)
  N b h κ := by
    rw [STEP_main_v71_6, I.st_succ]
    exact t_6 X n H.ctr b h _ _ _ (H.entry.ml n b h) (H.entry.ft n b h) (H.m b h) _ κ (H.entry.n n b h κ) (H.N b h κ)
  m b h := by
    rw [STEP_main_v71_7, I.st_succ]
    exact t_7 X n H.ctr b h _ _ _ (H.entry.ml n b h) (H.entry.ft n b h) (H.m b h)
  pC n' b h κ d hn := by
    rw [STEP_main_v71_8]
    refine (t_8 X n H.ctr b h n' κ d).trans ?_
    by_cases he : n' = n
    · rw [if_pos he, he]; exact H.C b h κ d
    · rw [if_neg he]; exact H.pC n' b h κ d (by have := fun e => he (Fin.ext e); omega)
  pN n' b h κ hn := by
    rw [STEP_main_v71_9]
    refine (t_9 X n H.ctr b h n' κ).trans ?_
    by_cases he : n' = n
    · rw [if_pos he, he]; exact H.N b h κ
    · rw [if_neg he]; exact H.pN n' b h κ (by have := fun e => he (Fin.ext e); omega)
  pm n' b h hn := by
    rw [STEP_main_v71_10]
    refine (t_10 X n H.ctr b h n').trans ?_
    by_cases he : n' = n
    · rw [if_pos he, he]; exact H.m b h
    · rw [if_neg he]; exact H.pm n' b h (by have := fun e => he (Fin.ext e); omega)

theorem inv_all (I : Spec.Inp) (X : Valuation τ sig (Elt Ideal)) (H : Inv I X 0) : ∀ j, j ≤ 16 → Inv I (STEP^[j] X) j
  | 0, _ => H
  | j + 1, hj => by
    rw [Function.iterate_succ_apply']
    exact inv_step I _ ⟨j, hj⟩ (inv_all I X H j (by omega))

/-- A trip leaves what it does not carry. -/
theorem trip_keep (X : Valuation τ sig (Elt Ideal)) (r : Ref sig .tc)
    (hr : r = main_v8 ∨ r = main_v15 ∨ r = main_v18 ∨ r = main_v19 ∨ r = main_v20 ∨ r = main_v32 ∨ r = main_v43) :
    afterL bodyI (after condOps X) (Proc.devRef .tc r) = X (Proc.devRef .tc r) := by
  simp only [afterL_cons, afterL_nil]
  rcases hr with rfl | rfl | rfl | rfl | rfl | rfl | rfl <;> after_reads_simp

theorem atK_keep (m : (ℓ : Loc nD τ sig) → Buf (Elt Ideal) ℓ) (c : Dev nD) (r : Ref sig .tc)
    (hr : r = main_v8 ∨ r = main_v15 ∨ r = main_v18 ∨ r = main_v19 ∨ r = main_v20 ∨ r = main_v32 ∨ r = main_v43) :
    ∀ j, atK m j c (Proc.devRef .tc r) = entryContents preI m c (Proc.devRef .tc r)
  | 0 => rfl
  | j + 1 => (trip_keep (atK m j c) r hr).trans (atK_keep m c r hr j)

end Cert.Mlstm.R
end
-- ==== Proof.Mlstm.RPost.lean ====
/- The reference's operations after its loop, in terms of the layer's mathematics. -/
module

public import proofs.«01_k».proof.Proof.Mlstm.RPre

@[expose] public section

set_option maxRecDepth 16384

noncomputable section

namespace Cert.Mlstm.R

open Cert.ReferenceIdeal Cert.ReferenceIdeal.Gen Idealize.ShloMosaic Idealize.ShloMosaic.TcCoe Idealize.ShloMosaic.StableHlo

/-- The operations up to the rows' weights. -/
def opsP : List (HloOp τ sig (Elt Ideal)) := hostOps0_9.take 17
/-- The operations from there to the heads' values. -/
def opsQ : List (HloOp τ sig (Elt Ideal)) := (hostOps0_9.drop 17).take 22
/-- The heads' values as rows of the result. -/
def opsR1 : List (HloOp τ sig (Elt Ideal)) := (hostOps0_9.drop 39).take 1
/-- The output gate. -/
def opsR2 : List (HloOp τ sig (Elt Ideal)) := (hostOps0_9.drop 40).take 9
/-- The normalization of each head. -/
def opsR3 : List (HloOp τ sig (Elt Ideal)) := (hostOps0_9.drop 49).take 13
/-- The weight and the gate. -/
def opsR4 : List (HloOp τ sig (Elt Ideal)) := hostOps0_9.drop 62

theorem max_at (x y : FVec Ideal S16x16x8x128 .f32) (i : S16x16x8x128.Idx) : maximumf x y i = max (α := EReal) (x i) (y i) := rfl

theorem rowMax_at (x : FVec Ideal S16x16x8x128x128 .f32) (b n : Fin 16) (h : Fin 8) (t : Fin 128) :
    @Eq EReal (Host.reduce (FloatOps.maximumf (F := Ideal) (φ := .f32)) x (constant (F := Ideal) S_ .f32 0xFF800000#32)
        reducesTo_S16x16x8x128x128_S16x16x8x128_d4 h_S_ (ix4 b n h t))
      (Finset.univ.fold max (Ideal.ofBits .f32 0xFF800000#32) fun s => x (ix5 b n h t s)) := by
  pointwise

/-- A scale that is a nonnegative real comes out of a sum. -/
theorem sum_scale64 (a b : Fin 64 → EReal) (r : EReal) (h0 : 0 ≤ r) (h1 : r ≠ ⊤) :
    r * ∑ κ, a κ * b κ = ∑ κ, a κ * r * b κ := by
  generalize (Finset.univ : Finset (Fin 64)) = S
  induction S using Finset.induction_on with
  | empty => simp
  | insert x S hx ih =>
    rw [Finset.sum_insert hx, Finset.sum_insert hx, EReal.left_distrib_of_nonneg_of_ne_top h0 h1, ih, mul_right_comm, mul_comm r]

/-- The state's weight is at most one. -/
theorem exp_sub_max (a b : EReal) : 0 ≤ Ideal.exp (a - max a b) ∧ Ideal.exp (a - max a b) ≠ ⊤ := by
  have hle : a - max a b ≤ 0 := by
    rcases eq_or_ne (max a b) ⊤ with h | h
    · rw [h]; simp
    · rcases eq_or_ne (max a b) ⊥ with h' | h'
      · have : a = ⊥ := le_bot_iff.mp (h' ▸ le_max_left a b)
        rw [this]; simp
      · exact (EReal.sub_nonpos).mpr (le_max_left a b)
  generalize a - max a b = z at hle
  induction z using EReal.rec with
  | bot => simp
  | top => simp at hle
  | coe r => rw [Ideal.exp_coe]; exact ⟨by exact_mod_cast (Real.exp_pos r).le, EReal.coe_ne_top _⟩

section Chunk

variable (V : Valuation τ sig (Elt Ideal))
variable (q k : Fin 128 → Fin 64 → EReal) (li lf : Fin 128 → EReal) (v : Fin 128 → Fin 128 → EReal) (b n : Fin 16) (h : Fin 8) (S : Spec.St)

theorem p_mt (hfc : ∀ t, V (Proc.devRef .tc main_v32) (ix4 b n h t) = Spec.fc lf t)
    (hld : ∀ t s, V (Proc.devRef .tc main_v43) (ix5 b n h t s) = Spec.ld li lf t s)
    (hm : V (Proc.devRef .tc main_v71_10) (ix3 n b h) = S.m) (t : Fin 128) :
    @Eq EReal (after opsP V (Proc.devRef .tc main_v79) (ix4 b n h t)) (Spec.mt li lf S.m t) := by
  unfold opsP
  after_reads_simp
  refine (max_at _ _ _).trans ?_
  refine (congrArg (max _) (rowMax_at _ b n h t)).trans ?_
  pointwise
  simp only [hfc, hld, hm, ofBits_bot]
  rfl
theorem p_iw (hfc : ∀ t, V (Proc.devRef .tc main_v32) (ix4 b n h t) = Spec.fc lf t)
    (hld : ∀ t s, V (Proc.devRef .tc main_v43) (ix5 b n h t s) = Spec.ld li lf t s)
    (hm : V (Proc.devRef .tc main_v71_10) (ix3 n b h) = S.m) (t : Fin 128) :
    @Eq EReal (after opsP V (Proc.devRef .tc main_v87) (ix4 b n h t)) (Spec.iw li lf S.m t) := by
  unfold opsP
  after_reads_at
  simp only [hfc, hld, hm, ofBits_bot]
  rfl
theorem p_sc (hld : ∀ t s, V (Proc.devRef .tc main_v43) (ix5 b n h t s) = Spec.ld li lf t s)
    (hfc : ∀ t, V (Proc.devRef .tc main_v32) (ix4 b n h t) = Spec.fc lf t)
    (hm : V (Proc.devRef .tc main_v71_10) (ix3 n b h) = S.m)
    (hq : ∀ t κ, V (Proc.devRef .tc main_v18) (ix5 b n t h κ) = q t κ)
    (hk : ∀ t κ, V (Proc.devRef .tc main_v19) (ix5 b n t h κ) = k t κ) (t s : Fin 128) :
    @Eq EReal (after opsP V (Proc.devRef .tc main_v85) (ix5 b n h t s)) (Spec.sc q k li lf S.m t s) := by
  unfold opsP
  after_reads_at
  simp only [hfc, hld, hm, hq, hk, ofBits_bot]
  rfl
theorem p_C (κ : Fin 64) (d : Fin 128) : @Eq EReal (after opsP V (Proc.devRef .tc main_v72) (ix5 b n h κ d))
    (V (Proc.devRef .tc main_v71_8) (ix5 n b h κ d)) := by
  unfold opsP
  after_reads_at
theorem p_N (κ : Fin 64) : @Eq EReal (after opsP V (Proc.devRef .tc main_v73) (ix4 b n h κ))
    (V (Proc.devRef .tc main_v71_9) (ix4 n b h κ)) := by
  unfold opsP
  after_reads_at

theorem q_hv (hq : ∀ t κ, V (Proc.devRef .tc main_v18) (ix5 b n t h κ) = q t κ)
    (hv : ∀ t d, V (Proc.devRef .tc main_v20) (ix5 b n t h d) = v t d)
    (hC : ∀ κ d, V (Proc.devRef .tc main_v72) (ix5 b n h κ d) = S.C κ d)
    (hN : ∀ κ, V (Proc.devRef .tc main_v73) (ix4 b n h κ) = S.N κ)
    (hmt : ∀ t, V (Proc.devRef .tc main_v79) (ix4 b n h t) = Spec.mt li lf S.m t)
    (hiw : ∀ t, V (Proc.devRef .tc main_v87) (ix4 b n h t) = Spec.iw li lf S.m t)
    (hsc : ∀ t s, V (Proc.devRef .tc main_v85) (ix5 b n h t s) = Spec.sc q k li lf S.m t s) (t d : Fin 128) :
    @Eq EReal (after opsQ V (Proc.devRef .tc main_v108) (ix5 b n t h d)) (Spec.hv q k v li lf S.m S.C S.N t d) := by
  unfold opsQ
  after_reads_at
  simp only [hq, hv, hC, hN, hmt, hiw, hsc, Ideal.absf_def]
  have hw : 0 ≤ Spec.iw li lf S.m t ∧ Spec.iw li lf S.m t ≠ ⊤ := exp_sub_max _ _
  rw [sum_scale64 _ _ _ hw.1 hw.2, Spec.hv, zero_sub]
  have e1 : ∑ s, v s d * Spec.sc q k li lf S.m t s = ∑ s, Spec.sc q k li lf S.m t s * v s d := Finset.sum_congr rfl fun s _ => mul_comm _ _
  have e2 : ∑ κ, S.C κ d * (Spec.iw li lf S.m t * q t κ) = ∑ κ, q t κ * Spec.iw li lf S.m t * S.C κ d :=
    Finset.sum_congr rfl fun κ _ => by rw [mul_comm, mul_comm (Spec.iw _ _ _ _)]
  rw [e1, e2]
  rfl

theorem r_109 (t d : Fin 128) : @Eq EReal (after opsR1 V (Proc.devRef .tc main_v109) (ix3 b (Spec.row n t) ⟨128 * h.val + d.val, by omega⟩))
    (V (Proc.devRef .tc main_v108) (ix5 b n t h d)) := by
  unfold opsR1
  after_reads_at
  have hat : ∀ (n' : Fin 16) (t' : Fin 128), n' = n → t' = t →
      @Eq EReal (V (Proc.devRef .tc main_v108) (ix5 b n' t' h d)) (V (Proc.devRef .tc main_v108) (ix5 b n t h d)) :=
    fun _ _ e1 e2 => by rw [e1, e2]
  exact hat _ _ (Fin.ext (by simp only; omega)) (Fin.ext (by simp only; omega))
theorem r_116 (r : Fin 2048) (d : Fin 128) : @Eq EReal (after opsR2 V (Proc.devRef .tc main_v116) (ix4 b r h d))
    (V (Proc.devRef .tc main_v109) (ix3 b r ⟨128 * h.val + d.val, by omega⟩)) := by
  unfold opsR2
  after_reads_at
  have hat : ∀ (j j' : Fin 1024), j = j' →
      @Eq EReal (V (Proc.devRef .tc main_v109) (ix3 b r j)) (V (Proc.devRef .tc main_v109) (ix3 b r j')) :=
    fun _ _ e => by rw [e]
  exact hat _ _ (Fin.ext (by simp only; omega))
theorem r_115 (r : Fin 2048) (j : Fin 1024) : @Eq EReal (after opsR2 V (Proc.devRef .tc main_v115) (ix3 b r j))
    (Ideal.logistic (V (Proc.devRef .tc main_v8) (ix3 b r j))) := by
  unfold opsR2
  after_reads_at
  rfl
theorem r_126 (r : Fin 2048) (x : Fin 128 → EReal) (hx : ∀ d, V (Proc.devRef .tc main_v116) (ix4 b r h d) = x d) (d : Fin 128) :
    @Eq EReal (after opsR3 V (Proc.devRef .tc main_v126) (ix4 b r h d))
    (x d * Ideal.rsqrt (Ideal.div (∑ e, x e * x e) (Ideal.ofBits .f32 0x43000000#32) + Ideal.ofBits .f32 0x3727C5AC#32)) := by
  unfold opsR3
  after_reads_at
  simp only [hx]
theorem r_132 (r : Fin 2048) (d : Fin 128) (g x w : EReal)
    (hg : V (Proc.devRef .tc main_v115) (ix3 b r ⟨128 * h.val + d.val, by omega⟩) = g)
    (hx : V (Proc.devRef .tc main_v126) (ix4 b r h d) = x)
    (hw : V (Proc.devRef .tc main_v15) (ix1 ⟨128 * h.val + d.val, by omega⟩) = w) :
    @Eq EReal (after opsR4 V (Proc.devRef .tc main_v132) (ix3 b r ⟨128 * h.val + d.val, by omega⟩)) (g * (x * w)) := by
  unfold opsR4
  after_reads_at
  have hat : ∀ (h' : Fin 8) (d' : Fin 128), h' = h → d' = d →
      @Eq EReal (V (Proc.devRef .tc main_v126) (ix4 b r h' d')) x :=
    fun _ _ e1 e2 => by rw [e1, e2]; exact hx
  rw [hg, hw, hat _ _ (Fin.ext (by simp only; omega)) (Fin.ext (by simp only; omega))]

theorem keepR (X : Valuation τ sig (Elt Ideal)) :
    after opsR1 X (Proc.devRef .tc main_v8) = X (Proc.devRef .tc main_v8)
    ∧ after opsR1 X (Proc.devRef .tc main_v15) = X (Proc.devRef .tc main_v15)
    ∧ after opsR2 X (Proc.devRef .tc main_v15) = X (Proc.devRef .tc main_v15)
    ∧ after opsR3 X (Proc.devRef .tc main_v15) = X (Proc.devRef .tc main_v15)
    ∧ after opsR3 X (Proc.devRef .tc main_v115) = X (Proc.devRef .tc main_v115) := by
  unfold opsR1 opsR2 opsR3
  refine ⟨?_, ?_, ?_, ?_, ?_⟩ <;> after_reads_simp

theorem r_out (o nw : EReal) (hh : Fin 128 → EReal) (t d : Fin 128)
    (ho : V (Proc.devRef .tc main_v8) (ix3 b (Spec.row n t) ⟨128 * h.val + d.val, by omega⟩) = o)
    (hv : ∀ d, V (Proc.devRef .tc main_v108) (ix5 b n t h d) = hh d)
    (hw : V (Proc.devRef .tc main_v15) (ix1 ⟨128 * h.val + d.val, by omega⟩) = nw) :
    @Eq EReal (after opsR4 (after opsR3 (after opsR2 (after opsR1 V))) (Proc.devRef .tc main_v132)
      (ix3 b (Spec.row n t) ⟨128 * h.val + d.val, by omega⟩)) (Spec.gated o nw hh d) := by
  refine r_132 _ b h _ d (Ideal.logistic o) _ nw ?_
    (r_126 _ b h _ hh (fun d => (r_116 _ b h _ d).trans ((r_109 _ b n h t d).trans (hv d))) d) ?_
  · rw [(keepR _).2.2.2.2, r_115, (keepR _).1, ho]
  · rw [(keepR _).2.2.2.1, (keepR _).2.2.1, (keepR _).2.1, hw]

end Chunk
end Cert.Mlstm.R
end
-- ==== Proof.Mlstm.RVal.lean ====
/- The reference's result in terms of the layer's mathematics. -/
module

public import proofs.«01_k».proof.Proof.Mlstm.RIn
public import proofs.«01_k».proof.Proof.Mlstm.RLoop
public import proofs.«01_k».proof.Proof.Mlstm.RPost

@[expose] public section

set_option maxRecDepth 16384

noncomputable section

namespace Cert.Mlstm.R

open Cert.ReferenceIdeal Cert.ReferenceIdeal.Gen Cert.ReferenceIdeal.Value Idealize.ShloMosaic Idealize.ShloMosaic.TcCoe Idealize.ShloMosaic.StableHlo

section Entry

variable (V : Valuation τ sig (Elt Ideal))

/-- The contents before the loop. -/
def ent : Valuation τ sig (Elt Ideal) := after hostOps0_8 (eB (eA V))

theorem keep_in (W : Valuation τ sig (Elt Ideal)) (r : Ref sig .tc)
    (hr : r = main_v8 ∨ r = main_v15 ∨ r = main_v18 ∨ r = main_v19 ∨ r = main_v20 ∨ r = main_v32 ∨ r = main_v43) :
    after hostOps0_8 W (Proc.devRef .tc r) = W (Proc.devRef .tc r) := by
  rcases hr with rfl | rfl | rfl | rfl | rfl | rfl | rfl <;> after_reads_simp

theorem keep_b (W : Valuation τ sig (Elt Ideal)) (r : Ref sig .tc)
    (hr : r = main_v8 ∨ r = main_v15 ∨ r = main_v18 ∨ r = main_v19 ∨ r = main_v20 ∨ r = main_v25) :
    eB W (Proc.devRef .tc r) = W (Proc.devRef .tc r) := by
  unfold eB
  rcases hr with rfl | rfl | rfl | rfl | rfl | rfl <;> after_reads_simp

variable (b n : Fin 16) (h : Fin 8) (t : Fin 128)

theorem b_q (κ : Fin 64) : @Eq EReal (eB (eA V) (Proc.devRef .tc main_v18) (ix5 b n t h κ)) ((inp V).q b h n t κ) := by
  rw [keep_b _ _ (by decide)]; exact a_q V b n t h κ
theorem b_k (κ : Fin 64) : @Eq EReal (eB (eA V) (Proc.devRef .tc main_v19) (ix5 b n t h κ)) ((inp V).k b h n t κ) := by
  rw [keep_b _ _ (by decide)]; exact a_k V b n t h κ
theorem b_v (d : Fin 128) : @Eq EReal (eB (eA V) (Proc.devRef .tc main_v20) (ix5 b n t h d)) ((inp V).v b h n t d) := by
  rw [keep_b _ _ (by decide)]; exact a_v V b n t h d
theorem b_li : @Eq EReal (eB (eA V) (Proc.devRef .tc main_v25) (ix4 b n h t)) ((inp V).li b h n t) := by
  rw [keep_b _ _ (by decide)]; exact a_li V b n t h
theorem b_fcs : @Eq EReal (eB (eA V) (Proc.devRef .tc main_v32) (ix4 b n h t)) (Spec.fc ((inp V).lf b h n) t) :=
  b_fc _ _ b n h (fun t => a_lf V b n t h) t
theorem b_lds (s : Fin 128) : @Eq EReal (eB (eA V) (Proc.devRef .tc main_v43) (ix5 b n h t s)) (Spec.ld ((inp V).li b h n) ((inp V).lf b h n) t s) :=
  b_ld _ _ _ b n h (fun t => a_lf V b n t h) (fun t => a_li V b n t h) t s

theorem entry : Entry (inp V) (ent V) where
  c n b h κ d := c_c _ _ _ _ _ b n h (fun t => b_fcs V b n h t) (fun t => b_li V b n h t) (fun t κ => b_k V b n h t κ) (fun t d => b_v V b n h t d) κ d
  n n b h κ := c_n _ _ _ _ b n h (fun t => b_fcs V b n h t) (fun t => b_li V b n h t) (fun t κ => b_k V b n h t κ) κ
  ml n b h := c_ml _ _ _ b n h (fun t => b_fcs V b n h t) (fun t => b_li V b n h t)
  ft n b h := c_ft _ _ b n h (fun t => b_fcs V b n h t)

theorem inv_zero (hctr : ent V (Proc.devRef .tc main_v71_4) = fun _ => 0#32) : Inv (inp V) (ent V) 0 where
  entry := entry V
  ctr := hctr
  C b h κ d := c_5 _ b h κ d
  N b h κ := c_6 _ b h κ
  m b h := c_7 _ b h
  pC _ _ _ _ _ hn := absurd hn (Nat.not_lt_zero _)
  pN _ _ _ _ hn := absurd hn (Nat.not_lt_zero _)
  pm _ _ _ hn := absurd hn (Nat.not_lt_zero _)

end Entry

variable (m : (ℓ : Loc nD τ sig) → Buf (Elt Ideal) ℓ) (c : Dev nD)

/-- The contents a device starts from. -/
abbrev V0 : Valuation τ sig (Elt Ideal) := fun b => m (c, b)

/-- The contents after the loop. -/
def fin16 : Valuation τ sig (Elt Ideal) := after condOps (atK m 16 c)

theorem cond_keep (X : Valuation τ sig (Elt Ideal)) (r : Ref sig .tc)
    (hr : r = main_v8 ∨ r = main_v15 ∨ r = main_v18 ∨ r = main_v19 ∨ r = main_v20 ∨ r = main_v32 ∨ r = main_v43
      ∨ r = main_v71_8 ∨ r = main_v71_9 ∨ r = main_v71_10) :
    after condOps X (Proc.devRef .tc r) = X (Proc.devRef .tc r) := by
  rcases hr with rfl | rfl | rfl | rfl | rfl | rfl | rfl | rfl | rfl | rfl <;> after_reads_simp

theorem fin_keep (r : Ref sig .tc)
    (hr : r = main_v8 ∨ r = main_v15 ∨ r = main_v18 ∨ r = main_v19 ∨ r = main_v20 ∨ r = main_v32 ∨ r = main_v43) :
    fin16 m c (Proc.devRef .tc r) = eB (eA (V0 m c)) (Proc.devRef .tc r) :=
  (cond_keep _ r (by tauto)).trans ((atK_keep m c r hr 16).trans (keep_in _ r hr))

theorem inv_fin : Inv (inp (V0 m c)) (STEP^[16] (ent (V0 m c))) 16 :=
  inv_all _ _ (inv_zero _ (ctr_entry m c)) 16 le_rfl

theorem fin_C (n b : Fin 16) (h : Fin 8) (κ : Fin 64) (d : Fin 128) :
    @Eq EReal (fin16 m c (Proc.devRef .tc main_v71_8) (ix5 n b h κ d)) (((inp (V0 m c)).st b h n.val).C κ d) := by
  rw [fin16, cond_keep _ _ (by decide), atK_agree m c 16 main_v71_8 (by decide)]
  exact (inv_fin m c).pC n b h κ d n.isLt
theorem fin_N (n b : Fin 16) (h : Fin 8) (κ : Fin 64) :
    @Eq EReal (fin16 m c (Proc.devRef .tc main_v71_9) (ix4 n b h κ)) (((inp (V0 m c)).st b h n.val).N κ) := by
  rw [fin16, cond_keep _ _ (by decide), atK_agree m c 16 main_v71_9 (by decide)]
  exact (inv_fin m c).pN n b h κ n.isLt
theorem fin_m (n b : Fin 16) (h : Fin 8) :
    @Eq EReal (fin16 m c (Proc.devRef .tc main_v71_10) (ix3 n b h)) ((inp (V0 m c)).st b h n.val).m := by
  rw [fin16, cond_keep _ _ (by decide), atK_agree m c 16 main_v71_10 (by decide)]
  exact (inv_fin m c).pm n b h n.isLt

theorem keepP (X : Valuation τ sig (Elt Ideal)) (r : Ref sig .tc)
    (hr : r = main_v8 ∨ r = main_v15 ∨ r = main_v18 ∨ r = main_v20) : after opsP X (Proc.devRef .tc r) = X (Proc.devRef .tc r) := by
  unfold opsP
  rcases hr with rfl | rfl | rfl | rfl <;> after_reads_simp
theorem keepQ (X : Valuation τ sig (Elt Ideal)) (r : Ref sig .tc)
    (hr : r = main_v8 ∨ r = main_v15) : after opsQ X (Proc.devRef .tc r) = X (Proc.devRef .tc r) := by
  unfold opsQ
  rcases hr with rfl | rfl <;> after_reads_simp

theorem post_split (X : Valuation τ sig (Elt Ideal)) : after hostOps0_9 X = after opsR4 (after opsR3 (after opsR2 (after opsR1 (after opsQ (after opsP X))))) := by
  rw [← StableHlo.after_append, ← StableHlo.after_append, ← StableHlo.after_append, ← StableHlo.after_append, ← StableHlo.after_append]
  rfl

theorem value (b n : Fin 16) (h : Fin 8) (t d : Fin 128) :
    @Eq EReal (finalContents condOps preI bodyI postI 16 m c (Proc.devRef .tc main_v132) (ix3 b (Spec.row n t) ⟨128 * h.val + d.val, by omega⟩))
      ((inp (V0 m c)).out b h n t d) := by
  show @Eq EReal (after hostOps0_9 (fin16 m c) (Proc.devRef .tc main_v132) (ix3 b (Spec.row n t) ⟨128 * h.val + d.val, by omega⟩)) _
  rw [post_split]
  have kq : ∀ t κ, @Eq EReal (fin16 m c (Proc.devRef .tc main_v18) (ix5 b n t h κ)) _ := fun t κ =>
    (congrFun (fin_keep m c main_v18 (by decide)) _).trans (b_q (V0 m c) b n h t κ)
  have kk : ∀ t κ, @Eq EReal (fin16 m c (Proc.devRef .tc main_v19) (ix5 b n t h κ)) _ := fun t κ =>
    (congrFun (fin_keep m c main_v19 (by decide)) _).trans (b_k (V0 m c) b n h t κ)
  have kv : ∀ t d, @Eq EReal (fin16 m c (Proc.devRef .tc main_v20) (ix5 b n t h d)) _ := fun t d =>
    (congrFun (fin_keep m c main_v20 (by decide)) _).trans (b_v (V0 m c) b n h t d)
  have kf : ∀ t, @Eq EReal (fin16 m c (Proc.devRef .tc main_v32) (ix4 b n h t)) _ := fun t =>
    (congrFun (fin_keep m c main_v32 (by decide)) _).trans (b_fcs (V0 m c) b n h t)
  have kl : ∀ t s, @Eq EReal (fin16 m c (Proc.devRef .tc main_v43) (ix5 b n h t s)) _ := fun t s =>
    (congrFun (fin_keep m c main_v43 (by decide)) _).trans (b_lds (V0 m c) b n h t s)
  refine r_out _ b n h _ _ _ t d ?_ (fun d' => q_hv _ ((inp (V0 m c)).q b h n) ((inp (V0 m c)).k b h n) ((inp (V0 m c)).li b h n) ((inp (V0 m c)).lf b h n)
    ((inp (V0 m c)).v b h n) b n h ((inp (V0 m c)).st b h n.val) ?_ ?_ ?_ ?_ ?_ ?_ ?_ t d') ?_
  · rw [keepQ _ _ (by decide), keepP _ _ (by decide), fin_keep m c _ (by decide), keep_b _ _ (by decide)]
    exact a_o (V0 m c) b n t h d
  · intro t κ; rw [keepP _ _ (by decide)]; exact kq t κ
  · intro t d; rw [keepP _ _ (by decide)]; exact kv t d
  · intro κ d; exact (p_C _ b n h κ d).trans (fin_C m c n b h κ d)
  · intro κ; exact (p_N _ b n h κ).trans (fin_N m c n b h κ)
  · intro t; exact p_mt _ _ _ b n h _ kf kl (fin_m m c n b h) t
  · intro t; exact p_iw _ _ _ b n h _ kf kl (fin_m m c n b h) t
  · intro t s; exact p_sc _ _ _ _ _ b n h _ kl kf (fin_m m c n b h) kq kk t s
  · rw [keepQ _ _ (by decide), keepP _ _ (by decide), fin_keep m c _ (by decide), keep_b _ _ (by decide)]
    exact a_nw (V0 m c) _

end Cert.Mlstm.R
end
-- ==== Proof.Mlstm.RRun.lean ====
/- The reference's run: it ends, keeps its arguments and leaves the layer's value. -/
module

public import proofs.«01_k».proof.Proof.Mlstm.RVal
public import Idealize.ShloMosaic.Lib.Quiescent

@[expose] public section

set_option maxRecDepth 16384

noncomputable section

namespace Cert.Mlstm.R

open Cert.ReferenceIdeal Cert.ReferenceIdeal.Gen Cert.ReferenceIdeal.Value Idealize.ShloMosaic Idealize.ShloMosaic.TcCoe Idealize.ShloMosaic.StableHlo Idealize.SL.Sem

/-- The reference's arguments. -/
abbrev IsArg (r : Ref sig .tc) : Prop := r = main_arg0 ∨ r = main_arg1 ∨ r = main_arg2 ∨ r = main_arg3 ∨ r = main_arg4

theorem arg_pre (V : Valuation τ sig (Elt Ideal)) (r : Ref sig .tc) (hr : IsArg r) : afterL preI V (Proc.devRef .tc r) = V (Proc.devRef .tc r) := by
  simp only [afterL_cons, afterL_nil]
  rcases hr with rfl | rfl | rfl | rfl | rfl <;> after_reads_simp
theorem arg_trip (V : Valuation τ sig (Elt Ideal)) (r : Ref sig .tc) (hr : IsArg r) :
    afterL bodyI (after condOps V) (Proc.devRef .tc r) = V (Proc.devRef .tc r) := by
  simp only [afterL_cons, afterL_nil]
  rcases hr with rfl | rfl | rfl | rfl | rfl <;> after_reads_simp
theorem arg_post (V : Valuation τ sig (Elt Ideal)) (r : Ref sig .tc) (hr : IsArg r) :
    afterL postI (after condOps V) (Proc.devRef .tc r) = V (Proc.devRef .tc r) := by
  simp only [afterL_cons, afterL_nil]
  rcases hr with rfl | rfl | rfl | rfl | rfl <;> after_reads_simp

variable (m : (ℓ : Loc nD τ sig) → Buf (Elt Ideal) ℓ) (c : Dev nD)

theorem arg_atK (r : Ref sig .tc) (hr : IsArg r) : ∀ j, atK m j c (Proc.devRef .tc r) = m (c, Proc.devRef .tc r)
  | 0 => arg_pre _ r hr
  | j + 1 => (arg_trip (atK m j c) r hr).trans (arg_atK r hr j)

theorem arg_kept (r : Ref sig .tc) (hr : IsArg r) :
    finalContents condOps preI bodyI postI 16 m c (Proc.devRef .tc r) = m (c, Proc.devRef .tc r) :=
  (arg_post _ r hr).trans (arg_atK m c r hr 16)

theorem run (ρ : Dev nD → PrngReg) : θ_run (defs (F := Ideal)) (onTc (τ := τ) (main (F := Ideal))) ⟨m, fun _ => 0, ρ⟩ fun r => ∀ c : Dev nD,
    r.2.mem ((c : Thread nD τ).loc main_v132) = finalContents condOps preI bodyI postI 16 m c (Proc.devRef .tc main_v132)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨h c main_v132 (by decide),
      (h c main_arg0 (by decide)).trans (arg_kept m c _ (by decide)),
      (h c main_arg1 (by decide)).trans (arg_kept m c _ (by decide)),
      (h c main_arg2 (by decide)).trans (arg_kept m c _ (by decide)),
      (h c main_arg3 (by decide)).trans (arg_kept m c _ (by decide)),
      (h c main_arg4 (by decide)).trans (arg_kept m c _ (by decide))⟩)
    (run_fold m ρ)

end Cert.Mlstm.R
end
-- ==== Proof.Final.FSpec.lean ====
/- What the last part of the layer computes on one row: a layer norm, and the gated per-layer embedding. -/
module

public import Idealize.ShloMosaic.Lib.Pointwise

@[expose] public section

noncomputable section

namespace Cert.Final

open Idealize.ShloMosaic

/-- The residual sum, by place. -/
def res (x moe : Fin 1024 → EReal) (e : Fin 1024) : EReal := Ideal.ofBits .f32 0x3F9837F0#32 * x e + moe e

/-- A row minus its mean. -/
def cen (y : Fin 1024 → EReal) (e : Fin 1024) : EReal := y e - Ideal.div (∑ k, y k) (Ideal.ofBits .f32 0x44800000#32)

/-- One over the row's deviation. -/
def dev (y : Fin 1024 → EReal) : EReal :=
  Ideal.rsqrt (Ideal.div (∑ k, cen y k * cen y k) (Ideal.ofBits .f32 0x44800000#32) + Ideal.ofBits .f32 0x3727C5AC#32)

/-- The layer norm of a row. -/
def norm (y g b : Fin 1024 → EReal) (e : Fin 1024) : EReal := cen y e * dev y * g e + b e

/-- The row of the result, from the normed row. -/
def out (z : Fin 1024 → EReal) (wg : Fin 1024 → Fin 1024 → EReal) (p : Fin 256 → EReal) (wp : Fin 256 → Fin 1024 → EReal) (j : Fin 1024) : EReal :=
  z j + Ideal.logistic (∑ e, z e * wg e j) * ∑ k, p k * wp k j

/-- The whole row, of its inputs. -/
def rowOf (x moe g b : Fin 1024 → EReal) (wg : Fin 1024 → Fin 1024 → EReal) (p : Fin 256 → EReal) (wp : Fin 256 → Fin 1024 → EReal) :
    Fin 1024 → EReal :=
  out (norm (res x moe) g b) wg p wp

theorem rowOf_congr {x x' moe moe' g g' b b' : Fin 1024 → EReal} {wg wg' : Fin 1024 → Fin 1024 → EReal} {p p' : Fin 256 → EReal}
    {wp wp' : Fin 256 → Fin 1024 → EReal} (hx : ∀ e, x e = x' e) (hm : ∀ e, moe e = moe' e) (hg : ∀ e, g e = g' e) (hb : ∀ e, b e = b' e)
    (hwg : ∀ e j, wg e j = wg' e j) (hp : ∀ k, p k = p' k) (hwp : ∀ k j, wp k j = wp' k j) (j : Fin 1024) :
    rowOf x moe g b wg p wp j = rowOf x' moe' g' b' wg' p' wp' j := by
  rw [funext hx, funext hm, funext hg, funext hb, funext fun e => funext (hwg e), funext hp, funext fun k => funext (hwp k)]

end Cert.Final

end
-- ==== Proof.Final.FKernel.lean ====
/- What the body of the final call computes at an index of its block, and the blocks it reads. -/
module

public import proofs.«01_k».proof.Proof.Gen.Kernel2Ideal.Value
public import proofs.«01_k».proof.Proof.Mlstm.KVal
public import proofs.«01_k».proof.Proof.Final.FSpec
public import Idealize.ShloMosaic.Lib.Claim
public import Idealize.ShloMosaic.Lib.StableHlo.ReadAt
public import Idealize.ShloMosaic.Lib.Pipeline.ValueKit

@[expose] public section

set_option maxRecDepth 16384

noncomputable section

namespace Cert.Final

open Cert.Kernel2Ideal Cert.Kernel2Ideal.Gen Idealize.ShloMosaic Idealize.ShloMosaic.TcCoe

/-- Eight slabs of 128 places side by side are one row of 1024. -/
theorem ladder (v : Fin 8 → Vec Ideal S1024x128 .f32) (f : Fin 1024 → EReal) (r e : Fin 1024)
    (hv : ∀ (c : Fin 8) (l : Fin 128), v c (ix2 r l) = f ⟨128 * c.val + l.val, by omega⟩) :
    (if h : e.val < 128 then v 0 (ix2 r ⟨e.val, h⟩)
      else if h : e.val - 128 < 128 then v 1 (ix2 r ⟨e.val - 128, h⟩)
      else if h : e.val - 128 - 128 < 128 then v 2 (ix2 r ⟨e.val - 128 - 128, h⟩)
      else if h : e.val - 128 - 128 - 128 < 128 then v 3 (ix2 r ⟨e.val - 128 - 128 - 128, h⟩)
      else if h : e.val - 128 - 128 - 128 - 128 < 128 then v 4 (ix2 r ⟨e.val - 128 - 128 - 128 - 128, h⟩)
      else if h : e.val - 128 - 128 - 128 - 128 - 128 < 128 then v 5 (ix2 r ⟨e.val - 128 - 128 - 128 - 128 - 128, h⟩)
      else if h : e.val - 128 - 128 - 128 - 128 - 128 - 128 < 128 then v 6 (ix2 r ⟨e.val - 128 - 128 - 128 - 128 - 128 - 128, h⟩)
      else v 7 (ix2 r ⟨e.val - 128 - 128 - 128 - 128 - 128 - 128 - 128, by omega⟩) : EReal) = f e := by
  split_ifs
  · exact (hv 0 _).trans (congrArg f (Fin.ext (by simp only [Fin.coe_ofNat_eq_mod]; omega)))
  · exact (hv 1 _).trans (congrArg f (Fin.ext (by simp only [Fin.coe_ofNat_eq_mod]; omega)))
  · exact (hv 2 _).trans (congrArg f (Fin.ext (by simp only [Fin.coe_ofNat_eq_mod]; omega)))
  · exact (hv 3 _).trans (congrArg f (Fin.ext (by simp only [Fin.coe_ofNat_eq_mod]; omega)))
  · exact (hv 4 _).trans (congrArg f (Fin.ext (by simp only [Fin.coe_ofNat_eq_mod]; omega)))
  · exact (hv 5 _).trans (congrArg f (Fin.ext (by simp only [Fin.coe_ofNat_eq_mod]; omega)))
  · exact (hv 6 _).trans (congrArg f (Fin.ext (by simp only [Fin.coe_ofNat_eq_mod]; omega)))
  · exact (hv 7 _).trans (congrArg f (Fin.ext (by simp only [Fin.coe_ofNat_eq_mod]; omega)))

section Body

variable (v : Fin 8 → Vec Ideal S1024x128 .f32) (x0 : Vec Ideal S1024x1024 .f32) (x2 : Vec Ideal S1024x256 .f32)
  (x3 x4 : Vec Ideal S1x1024 .f32) (x5 : Vec Ideal S1024x1024 .bf16) (x6 : Vec Ideal S256x1024 .bf16)

theorem pay4 (moe : Fin 1024 → EReal) (r e : Fin 1024)
    (hv : ∀ (c : Fin 8) (l : Fin 128), v c (ix2 r l) = moe ⟨128 * c.val + l.val, by omega⟩) :
    k0_pay4 (v 0) (v 1) (v 2) (v 3) (v 4) (v 5) (v 6) (v 7) x0 (ix2 r e) = cen (res (fun e => x0 (ix2 r e)) moe) e := by
  have L := fun e => ladder v moe r e hv
  pointwise [k0_pay4]
  simp only [L]
  rfl

theorem pay5 (moe : Fin 1024 → EReal) (r e : Fin 1024)
    (hv : ∀ (c : Fin 8) (l : Fin 128), v c (ix2 r l) = moe ⟨128 * c.val + l.val, by omega⟩) :
    k0_pay5 (v 0) (v 1) (v 2) (v 3) (v 4) (v 5) (v 6) (v 7) x0 (ix2 r e) =
      cen (res (fun e => x0 (ix2 r e)) moe) e * cen (res (fun e => x0 (ix2 r e)) moe) e := by
  have := pay4 v x0 moe r e hv
  unfold k0_pay5
  exact congrArg₂ (fun a b : EReal => a * b) this this

theorem pay1 (v23 v25 : FVec Ideal S1x1024 .f32) (v31 v32 : FVec Ideal S1024x1024 .f32) (y g b : Fin 1024 → EReal) (r j : Fin 1024)
    (h23 : ∀ e, v23 (ix2 0 e) = g e) (h25 : ∀ e, v25 (ix2 0 e) = b e) (h31 : ∀ e, v31 (ix2 r e) = cen y e)
    (h32 : ∀ e, v32 (ix2 r e) = cen y e * cen y e) :
    k0_pay1 v23 v25 v31 v32 x5 x2 x6 (ix2 r j) =
      out (norm y g b) (fun e j => x5 (ix2 e j)) (fun k => x2 (ix2 r k)) (fun k j => x6 (ix2 k j)) j := by
  pointwise [k0_pay1]
  simp only [h23, h25, h31, h32]
  rw [Mlstm.ofBits_half, Mlstm.sigmoid_tanh]
  rfl

/-- One slab of the experts' block: every eighth row. -/
def slab (x1 : Vec Ideal S8192x128 .f32) (c : Fin 8) : Vec Ideal S1024x128 .f32 := fun y =>
  x1 (ix2 ⟨8 * (y 0).val + c.val, by have : (y 0).val < 1024 := (y 0).isLt; omega⟩ (y 1))

/-- What the body leaves at an index of the block. -/
def body (x1 : Vec Ideal S8192x128 .f32) : Vec Ideal S1024x1024 .f32 :=
  k0_pay1 (k0_pay2 x3) (k0_pay3 x4)
    (k0_pay4 (slab x1 0) (slab x1 1) (slab x1 2) (slab x1 3) (slab x1 4) (slab x1 5) (slab x1 6) (slab x1 7) x0)
    (k0_pay5 (slab x1 0) (slab x1 1) (slab x1 2) (slab x1 3) (slab x1 4) (slab x1 5) (slab x1 6) (slab x1 7) x0) x5 x2 x6

theorem body_apply (x1 : Vec Ideal S8192x128 .f32) (r j : Fin 1024) (moe : Fin 1024 → EReal)
    (hm : ∀ (c : Fin 8) (l : Fin 128), x1 (ix2 ⟨8 * r.val + c.val, by omega⟩ l) = moe ⟨128 * c.val + l.val, by omega⟩) :
    body x0 x2 x3 x4 x5 x6 x1 (ix2 r j) =
      out (norm (res (fun e => x0 (ix2 r e)) moe) (fun e => x3 (ix2 0 e)) (fun e => x4 (ix2 0 e)))
        (fun e j => x5 (ix2 e j)) (fun k => x2 (ix2 r k)) (fun k j => x6 (ix2 k j)) j :=
  pay1 x2 x5 x6 _ _ _ _ _ _ _ r j (fun e => by pointwise [k0_pay2]) (fun e => by pointwise [k0_pay3])
    (fun e => pay4 (slab x1) x0 moe r e hm) (fun e => pay5 (slab x1) x0 moe r e hm)

end Body

section Out

variable (c : Dev nD) (i : grid0.Coords) (arg1 : Memref sig .tc .vmem S1024x1024 .f32) (harg1 : arg1.IsWhole)
  (arg2 : Memref sig .tc .vmem S8192x128 .f32) (harg2 : arg2.IsWhole) (arg3 : Memref sig .tc .vmem S1024x256 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S256x1024 .bf16) (harg7 : arg7.IsWhole)
  (arg8 : Memref sig .tc .vmem S1024x1024 .f32) (harg8 : arg8.IsWhole)
  (x0 : Vec Ideal S1024x1024 .f32) (x1 : Vec Ideal S8192x128 .f32) (x2 : Vec Ideal S1024x256 .f32) (x3 x4 : Vec Ideal S1x1024 .f32)
  (x5 : Vec Ideal S1024x1024 .bf16) (x6 : Vec Ideal S256x1024 .bf16)

/-- A load of every eighth row is a slab. -/
theorem slab_eq (n : Fin 8) (inb : ∀ (a : Fin S8192x128.rank), S1024x128.size a = 0 ∨ ![n.val, 0] a + ![8, 1] a * (S1024x128.size a - 1) < S8192x128.size a) :
    View.readAt (Elt Ideal) arg2.view (⟨![n.val, 0], S1024x128.size, ![8, 1], inb⟩ : LoadRect S8192x128) (harg2.unread x1) = slab x1 n := by
  funext y
  rw [View.readAt_apply, harg2.read_unread]
  unfold slab
  refine congrArg x1 (funext fun a => ?_)
  match a with
  | ⟨0, _⟩ => exact Fin.ext (by show n.val + 8 * (y 0).val = 8 * (y 0).val + n.val; omega)
  | ⟨1, _⟩ => exact Fin.ext (by show 0 + 1 * (y 1).val = (y 1).val; omega)

theorem out_eq : out0_A_7 c i arg1 harg1 arg2 harg2 arg3 harg3 arg4 harg4 arg5 harg5 arg6 harg6 arg7 harg7 arg8 harg8 x0 x1 x2 x3 x4 x5 x6 =
    body x0 x2 x3 x4 x5 x6 x1 := by
  unfold out0_A_7
  rw [View.read_writes_junk_eq_canon]
  show View.canon [(⟨Rect.unit (s := S1024x1024) ![0, 0] S1024x1024.size inb_S1024x1024_S1024x1024_0_0, _⟩ : View.Piece _ _ _)] = _
  rw [View.canon_cons_unit_lit _ _ _ (by decide)]
  have h0 : View.readAt (Elt Ideal) arg1.view (Rect.unit (s := S1024x1024) ![0, 0] S1024x1024.size inb_S1024x1024_S1024x1024_0_0).toLoadRect (harg1.unread x0) = x0 := by
    rw [View.readAt_eq_ld, harg1.read_unread]; exact View.ld_unit_lit _ _ (by decide)
  have h2 : View.readAt (Elt Ideal) arg3.view (Rect.unit (s := S1024x256) ![0, 0] S1024x256.size inb_S1024x256_S1024x256_0_0).toLoadRect (harg3.unread x2) = x2 := by
    rw [View.readAt_eq_ld, harg3.read_unread]; exact View.ld_unit_lit _ _ (by decide)
  have h3 : View.readAt (Elt Ideal) arg4.view (Rect.unit (s := S1x1024) ![0, 0] S1x1024.size inb_S1x1024_S1x1024_0_0).toLoadRect (harg4.unread x3) = x3 := by
    rw [View.readAt_eq_ld, harg4.read_unread]; exact View.ld_unit_lit _ _ (by decide)
  have h4 : View.readAt (Elt Ideal) arg5.view (Rect.unit (s := S1x1024) ![0, 0] S1x1024.size inb_S1x1024_S1x1024_0_0).toLoadRect (harg5.unread x4) = x4 := by
    rw [View.readAt_eq_ld, harg5.read_unread]; exact View.ld_unit_lit _ _ (by decide)
  have h5 : View.readAt (Elt Ideal) arg6.view (Rect.unit (s := S1024x1024) ![0, 0] S1024x1024.size inb_S1024x1024_S1024x1024_0_0).toLoadRect (harg6.unread x5) = x5 := by
    rw [View.readAt_eq_ld, harg6.read_unread]; exact View.ld_unit_lit _ _ (by decide)
  have h6 : View.readAt (Elt Ideal) arg7.view (Rect.unit (s := S256x1024) ![0, 0] S256x1024.size inb_S256x1024_S256x1024_0_0).toLoadRect (harg7.unread x6) = x6 := by
    rw [View.readAt_eq_ld, harg7.read_unread]; exact View.ld_unit_lit _ _ (by decide)
  have s := slab_eq arg2 harg2 x1
  refine (congr (congr (congrArg (k0_pay1 (kernelRun0_A.sl.r c arg4 harg4 x3) (kernelRun0_A.sl.r_1 c arg5 harg5 x4)
    (kernelRun0_A.sl.r_2 c arg1 harg1 arg2 harg2 x0 x1) (kernelRun0_A.sl.r_3 c arg1 harg1 arg2 harg2 x0 x1)) h5) h2) h6).trans ?_
  have e3 : kernelRun0_A.sl.r c arg4 harg4 x3 = k0_pay2 x3 := congrArg k0_pay2 h3
  have e4 : kernelRun0_A.sl.r_1 c arg5 harg5 x4 = k0_pay3 x4 := congrArg k0_pay3 h4
  have e1 : kernelRun0_A.sl.r_2 c arg1 harg1 arg2 harg2 x0 x1 =
      k0_pay4 (slab x1 0) (slab x1 1) (slab x1 2) (slab x1 3) (slab x1 4) (slab x1 5) (slab x1 6) (slab x1 7) x0 := by
    rw [← s 0 inb_S8192x128_S1024x128_0_0_s_8_1, ← s 1 inb_S8192x128_S1024x128_1_0_s_8_1, ← s 2 inb_S8192x128_S1024x128_2_0_s_8_1,
      ← s 3 inb_S8192x128_S1024x128_3_0_s_8_1, ← s 4 inb_S8192x128_S1024x128_4_0_s_8_1, ← s 5 inb_S8192x128_S1024x128_5_0_s_8_1,
      ← s 6 inb_S8192x128_S1024x128_6_0_s_8_1, ← s 7 inb_S8192x128_S1024x128_7_0_s_8_1]
    exact congrArg _ h0
  have e2 : kernelRun0_A.sl.r_3 c arg1 harg1 arg2 harg2 x0 x1 =
      k0_pay5 (slab x1 0) (slab x1 1) (slab x1 2) (slab x1 3) (slab x1 4) (slab x1 5) (slab x1 6) (slab x1 7) x0 :=
    congrArg (fun a => mulf a a) e1
  rw [e1, e2, e3, e4]
  rfl

end Out

end Cert.Final

end
-- ==== Proof.Final.FVal.lean ====
/- The final call's result, index by index, in terms of its arguments. -/
module

public import proofs.«01_k».proof.Proof.Final.FKernel

@[expose] public section

set_option maxRecDepth 16384

noncomputable section

namespace Cert.Final

open Cert.Kernel2Ideal Cert.Kernel2Ideal.Gen Idealize.ShloMosaic Idealize.ShloMosaic.TcCoe

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel

section V

variable (c : Dev nD) (b : Fin 16) (s : Fin 2048)

/-- A token's row. -/
abbrev row : Fin 32768 := ⟨2048 * b.val + s.val, by omega⟩

theorem v0 (e : Fin 1024) : @Eq EReal (V m c main_v0 (ix2 (row b s) e)) (m ((c : Thread nD τ).loc main_arg0) (ix3 b s e)) := by
  unfold V
  after_reads_at
  have hat : ∀ (b' : Fin 16) (s' : Fin 2048), b' = b → s' = s →
      @Eq EReal (m ((c : Thread nD τ).loc main_arg0) (ix3 b' s' e)) (m ((c : Thread nD τ).loc main_arg0) (ix3 b s e)) :=
    fun _ _ e1 e2 => by rw [e1, e2]
  exact hat _ _ (Fin.ext (by simp only; omega)) (Fin.ext (by simp only; omega))
theorem v1 (n : Fin 8) (l : Fin 128) : @Eq EReal (V m c main_v1 (ix2 ⟨8 * (row b s).val + n.val, by have := (row b s).isLt; omega⟩ l))
    (m ((c : Thread nD τ).loc main_arg1) (ix3 b s ⟨128 * n.val + l.val, by omega⟩)) := by
  unfold V
  after_reads_at
  exact congrArg (fun i => m ((c : Thread nD τ).loc main_arg1) (ix3 b s i)) (Fin.ext (by simp only; omega))
theorem v3 (k : Fin 256) : @Eq EReal (V m c main_v3 (ix2 (row b s) k)) (m ((c : Thread nD τ).loc main_arg2) (ix4 0 b s k)) := by
  unfold V
  after_reads_at
  have hat : ∀ (b' : Fin 16) (s' : Fin 2048), b' = b → s' = s →
      @Eq EReal (m ((c : Thread nD τ).loc main_arg2) (ix4 0 b' s' k)) (m ((c : Thread nD τ).loc main_arg2) (ix4 0 b s k)) :=
    fun _ _ e1 e2 => by rw [e1, e2]
  exact hat _ _ (Fin.ext (by simp only; omega)) (Fin.ext (by simp only; omega))
theorem v5 (e : Fin 1024) : @Eq EReal (V m c main_v5 (ix2 0 e)) (m ((c : Thread nD τ).loc main_arg3) (ix2 0 e)) := by
  unfold V
  after_reads_at
theorem v7 (e : Fin 1024) : @Eq EReal (V m c main_v7 (ix2 0 e)) (m ((c : Thread nD τ).loc main_arg4) (ix2 0 e)) := by
  unfold V
  after_reads_at
theorem v9 (e j : Fin 1024) : @Eq EReal (V m c main_v9 (ix2 e j)) (m ((c : Thread nD τ).loc main_arg5) (ix3 0 e j)) := by
  unfold V
  after_reads_at
theorem v11 (k : Fin 256) (j : Fin 1024) : @Eq EReal (V m c main_v11 (ix2 k j)) (m ((c : Thread nD τ).loc main_arg6) (ix3 0 k j)) := by
  unfold V
  after_reads_at

end V

section Blk

variable (c : Dev nD) (t : Fin cfg0.N) (r : Fin 1024)

theorem blk0 (e : Fin 1024) : iblk m c 0 t (ix2 r e) = V m c main_v0 (ix2 ⟨1024 * t.val + r.val, by have := lt_of_lt_of_eq t.isLt N_0; omega⟩ e) := by
  blk_ext [iblk, idx0]
theorem blk1 (n : Fin 8192) (l : Fin 128) : iblk m c 1 t (ix2 n l) = V m c main_v1 (ix2 ⟨8192 * t.val + n.val, by have := lt_of_lt_of_eq t.isLt N_0; omega⟩ l) := by
  blk_ext [iblk, idx1]
theorem blk2 (k : Fin 256) : iblk m c 2 t (ix2 r k) = V m c main_v3 (ix2 ⟨1024 * t.val + r.val, by have := lt_of_lt_of_eq t.isLt N_0; omega⟩ k) := by
  blk_ext [iblk, idx2]
theorem blk3 (e : Fin 1024) : iblk m c 3 t (ix2 0 e) = V m c main_v5 (ix2 0 e) := by
  blk_ext [iblk, idx3]
theorem blk4 (e : Fin 1024) : iblk m c 4 t (ix2 0 e) = V m c main_v7 (ix2 0 e) := by
  blk_ext [iblk, idx4]
theorem blk5 (e j : Fin 1024) : iblk m c 5 t (ix2 e j) = V m c main_v9 (ix2 e j) := by
  blk_ext [iblk, idx5]
theorem blk6 (k : Fin 256) (j : Fin 1024) : iblk m c 6 t (ix2 k j) = V m c main_v11 (ix2 k j) := by
  blk_ext [iblk, idx6]

theorem flush7 : ∀ t : Fin cfg0.N, (cfg0.win 7).flush t = true := by decide +kernel

theorem arr_blk (j : Fin 1024) : ((cfg0.win 7).blk t).view.read (Elt Ideal) ((dats m 0 c).arrAt 7 cfg0.N) (ix2 r j) =
    (dats m 0 c).arrAt 7 cfg0.N (ix2 ⟨1024 * t.val + r.val, by have := lt_of_lt_of_eq t.isLt N_0; omega⟩ j) := by
  blk_ext [idx7]

theorem cut_blk (x : Vec Ideal S1024x1024 .f32) (j : Fin 1024) : (cfg0.win 7).cut (grid0.coords t) x (ix2 r j) = x (ix2 r j) := rfl

end Blk

/-- The result's row of a token: the layer norm of the residual sum, and the gated embedding. -/
def row1 (c : Dev nD) (b : Fin 16) (s : Fin 2048) (j : Fin 1024) : EReal :=
  rowOf (fun e => m ((c : Thread nD τ).loc main_arg0) (ix3 b s e)) (fun e => m ((c : Thread nD τ).loc main_arg1) (ix3 b s e))
    (fun e => m ((c : Thread nD τ).loc main_arg3) (ix2 0 e)) (fun e => m ((c : Thread nD τ).loc main_arg4) (ix2 0 e))
    (fun e j => m ((c : Thread nD τ).loc main_arg5) (ix3 0 e j)) (fun k => m ((c : Thread nD τ).loc main_arg2) (ix4 0 b s k))
    (fun k j => m ((c : Thread nD τ).loc main_arg6) (ix3 0 k j)) j

/-- The kernel's result: that row. -/
theorem value (c : Dev nD) (b : Fin 16) (s : Fin 2048) (j : Fin 1024) :
    @Eq EReal ((dats m 0 c).arrAt 7 cfg0.N (ix2 (row b s) j)) (row1 m c b s j) := by
  have hlt : 2 * b.val + s.val / 1024 < cfg0.N := lt_of_lt_of_eq (by omega) N_0.symm
  have hr : s.val % 1024 < 1024 := Nat.mod_lt _ (by decide)
  obtain ⟨t, ht⟩ : ∃ t : Fin cfg0.N, t.val = 2 * b.val + s.val / 1024 := ⟨⟨_, hlt⟩, rfl⟩
  obtain ⟨r, hr⟩ : ∃ r : Fin 1024, r.val = s.val % 1024 := ⟨⟨_, hr⟩, rfl⟩
  have hb : 1024 * t.val + r.val < 32768 := by omega
  have e0 : (⟨1024 * t.val + r.val, hb⟩ : Fin 32768) = row b s := Fin.ext (by simp only; omega)
  have h := congrFun (Value.blocks7 m c t (flush7 t)) (ix2 r j)
  rw [arr_blk, Value.flushed7_A, cut_blk, out_eq, body_apply (moe := fun e => m ((c : Thread nD τ).loc main_arg1) (ix3 b s e))] at h
  · rw [e0] at h
    refine h.trans ?_
    exact rowOf_congr (fun e => (blk0 m c t r e).trans (by rw [e0]; exact v0 m c b s e)) (fun _ => rfl)
      (fun e => (blk3 m c t e).trans (v5 m c e)) (fun e => (blk4 m c t e).trans (v7 m c e)) (fun e j => (blk5 m c t e j).trans (v9 m c e j))
      (fun k => (blk2 m c t r k).trans (by rw [e0]; exact v3 m c b s k)) (fun k j => (blk6 m c t k j).trans (v11 m c k j)) j
  · intro n l
    refine (blk1 m c t _ l).trans (Eq.trans ?_ (v1 m c b s n l))
    exact congrArg (fun i => V m c main_v1 (ix2 i l)) (Fin.ext (by simp only; omega))

end Cert.Final

end
-- ==== Proof.Final.FRef.lean ====
/- The reference's result, index by index, in terms of its arguments. -/
module

public import proofs.«01_k».proof.Proof.Gen.Reference2Ideal.Run
public import proofs.«01_k».proof.Proof.Final.FSpec
public import Idealize.ShloMosaic.Lib.Claim
public import Idealize.ShloMosaic.Lib.StableHlo.ReadAt

@[expose] public section

set_option maxRecDepth 16384

noncomputable section

namespace Cert.Final.R

open Cert.Reference2Ideal Cert.Reference2Ideal.Value Idealize.ShloMosaic Idealize.ShloMosaic.TcCoe Idealize.ShloMosaic.StableHlo Idealize.SL.Sem

/-! The operations in seven pieces. -/
def opsA : List (HloOp τ sig (Elt Ideal)) := ops.take 4
def opsB : List (HloOp τ sig (Elt Ideal)) := (ops.drop 4).take 10
def opsC : List (HloOp τ sig (Elt Ideal)) := (ops.drop 14).take 11
def opsD : List (HloOp τ sig (Elt Ideal)) := (ops.drop 25).take 8
def opsE : List (HloOp τ sig (Elt Ideal)) := (ops.drop 33).take 10
def opsG : List (HloOp τ sig (Elt Ideal)) := (ops.drop 43).take 5
def opsH : List (HloOp τ sig (Elt Ideal)) := ops.drop 48

section Pieces

variable (V : Valuation τ sig (Elt Ideal)) (b : Fin 16) (s : Fin 2048)

theorem a_res (e : Fin 1024) : @Eq EReal (after opsA V (Proc.devRef .tc main_v2) (ix3 b s e))
    (res (fun e => V (Proc.devRef .tc main_arg0) (ix3 b s e)) (fun e => V (Proc.devRef .tc main_arg1) (ix3 b s e)) e) := by
  unfold opsA
  after_reads_at
  rfl
theorem b_cen (y : Fin 1024 → EReal) (hy : ∀ e, V (Proc.devRef .tc main_v2) (ix3 b s e) = y e) (e : Fin 1024) :
    @Eq EReal (after opsB V (Proc.devRef .tc main_v10) (ix3 b s e)) (cen y e) := by
  unfold opsB
  after_reads_at
  simp only [hy]
  rfl
theorem b_g (e : Fin 1024) : @Eq EReal (after opsB V (Proc.devRef .tc main_v3) (ix1 e)) (V (Proc.devRef .tc main_arg3) (ix2 0 e)) := by
  unfold opsB
  after_reads_at
theorem b_b (e : Fin 1024) : @Eq EReal (after opsB V (Proc.devRef .tc main_v4) (ix1 e)) (V (Proc.devRef .tc main_arg4) (ix2 0 e)) := by
  unfold opsB
  after_reads_at
theorem c_dev (y : Fin 1024 → EReal) (hy : ∀ e, V (Proc.devRef .tc main_v10) (ix3 b s e) = cen y e) :
    @Eq EReal (after opsC V (Proc.devRef .tc main_v18) (ix3 b s 0)) (dev y) := by
  unfold opsC
  after_reads_at
  simp only [hy]
  rfl
theorem d_norm (y g bb : Fin 1024 → EReal) (hy : ∀ e, V (Proc.devRef .tc main_v10) (ix3 b s e) = cen y e)
    (hd : V (Proc.devRef .tc main_v18) (ix3 b s 0) = dev y) (hg : ∀ e, V (Proc.devRef .tc main_v3) (ix1 e) = g e)
    (hb : ∀ e, V (Proc.devRef .tc main_v4) (ix1 e) = bb e) (e : Fin 1024) :
    @Eq EReal (after opsD V (Proc.devRef .tc main_v26) (ix3 b s e)) (norm y g bb e) := by
  unfold opsD
  after_reads_at
  simp only [hy, hd, hg, hb]
  rfl
theorem e_gate (z : Fin 1024 → EReal) (hz : ∀ e, V (Proc.devRef .tc main_v26) (ix3 b s e) = z e) (j : Fin 1024) :
    @Eq EReal (after opsE V (Proc.devRef .tc main_v34) (ix3 b s j))
      (Ideal.logistic (∑ e, z e * (V (Proc.devRef .tc main_arg5) (ix3 0 e j) : EReal))) := by
  unfold opsE
  after_reads_at
  simp only [hz]
  rfl
theorem g_out (z : Fin 1024 → EReal) (q : EReal) (j : Fin 1024) (hz : V (Proc.devRef .tc main_v26) (ix3 b s j) = z j)
    (hq : V (Proc.devRef .tc main_v34) (ix3 b s j) = q) :
    @Eq EReal (after opsG V (Proc.devRef .tc main_v39) (ix3 b s j))
      (z j + q * ∑ k : Fin 256, HMul.hMul (α := EReal) (V (Proc.devRef .tc main_arg2) (ix4 0 b s k)) (V (Proc.devRef .tc main_arg6) (ix3 0 k j))) := by
  unfold opsG
  after_reads_at
  rw [hz, hq]
theorem h_out (j : Fin 1024) : @Eq EReal (after opsH V (Proc.devRef .tc main_v40) (ix2 ⟨2048 * b.val + s.val, by omega⟩ j))
    (V (Proc.devRef .tc main_v39) (ix3 b s j)) := by
  unfold opsH
  after_reads_at

theorem keepA : after opsA V (Proc.devRef .tc main_arg2) = V (Proc.devRef .tc main_arg2)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5)
    ∧ after opsA V (Proc.devRef .tc main_arg6) = V (Proc.devRef .tc main_arg6) := by
  unfold opsA
  refine ⟨?_, ?_, ?_, ?_, ?_⟩ <;> after_reads_simp
theorem keepB : after opsB V (Proc.devRef .tc main_arg2) = V (Proc.devRef .tc main_arg2)
    ∧ after opsB V (Proc.devRef .tc main_arg5) = V (Proc.devRef .tc main_arg5)
    ∧ after opsB V (Proc.devRef .tc main_arg6) = V (Proc.devRef .tc main_arg6) := by
  unfold opsB
  refine ⟨?_, ?_, ?_⟩ <;> after_reads_simp
theorem keepC : after opsC V (Proc.devRef .tc main_arg2) = V (Proc.devRef .tc main_arg2)
    ∧ after opsC V (Proc.devRef .tc main_arg5) = V (Proc.devRef .tc main_arg5)
    ∧ after opsC V (Proc.devRef .tc main_arg6) = V (Proc.devRef .tc main_arg6)
    ∧ after opsC V (Proc.devRef .tc main_v3) = V (Proc.devRef .tc main_v3)
    ∧ after opsC V (Proc.devRef .tc main_v4) = V (Proc.devRef .tc main_v4)
    ∧ after opsC V (Proc.devRef .tc main_v10) = V (Proc.devRef .tc main_v10) := by
  unfold opsC
  refine ⟨?_, ?_, ?_, ?_, ?_, ?_⟩ <;> after_reads_simp
theorem keepD : after opsD V (Proc.devRef .tc main_arg2) = V (Proc.devRef .tc main_arg2)
    ∧ after opsD V (Proc.devRef .tc main_arg5) = V (Proc.devRef .tc main_arg5)
    ∧ after opsD V (Proc.devRef .tc main_arg6) = V (Proc.devRef .tc main_arg6) := by
  unfold opsD
  refine ⟨?_, ?_, ?_⟩ <;> after_reads_simp
theorem keepE : after opsE V (Proc.devRef .tc main_arg2) = V (Proc.devRef .tc main_arg2)
    ∧ after opsE V (Proc.devRef .tc main_arg6) = V (Proc.devRef .tc main_arg6)
    ∧ after opsE V (Proc.devRef .tc main_v26) = V (Proc.devRef .tc main_v26) := by
  unfold opsE
  refine ⟨?_, ?_, ?_⟩ <;> after_reads_simp

theorem ops_split : after ops V = after opsH (after opsG (after opsE (after opsD (after opsC (after opsB (after opsA V)))))) := by
  rw [← StableHlo.after_append, ← StableHlo.after_append, ← StableHlo.after_append, ← StableHlo.after_append, ← StableHlo.after_append,
    ← StableHlo.after_append]
  rfl

/-- The operations' result: the row of every token. -/
theorem value (j : Fin 1024) :
    @Eq EReal (after ops V (Proc.devRef .tc main_v40) (ix2 ⟨2048 * b.val + s.val, by omega⟩ j))
      (rowOf (fun e => V (Proc.devRef .tc main_arg0) (ix3 b s e)) (fun e => V (Proc.devRef .tc main_arg1) (ix3 b s e))
        (fun e => V (Proc.devRef .tc main_arg3) (ix2 0 e)) (fun e => V (Proc.devRef .tc main_arg4) (ix2 0 e))
        (fun e j => V (Proc.devRef .tc main_arg5) (ix3 0 e j)) (fun k => V (Proc.devRef .tc main_arg2) (ix4 0 b s k))
        (fun k j => V (Proc.devRef .tc main_arg6) (ix3 0 k j)) j) := by
  rw [ops_split]
  have hc := b_cen (after opsA V) b s _ (a_res V b s)
  have hd := c_dev (after opsB (after opsA V)) b s _ hc
  have hz := d_norm (after opsC (after opsB (after opsA V))) b s _ (fun e => V (Proc.devRef .tc main_arg3) (ix2 0 e))
    (fun e => V (Proc.devRef .tc main_arg4) (ix2 0 e)) (fun e => by rw [(keepC _).2.2.2.2.2]; exact hc e) hd
    (fun e => by rw [(keepC _).2.2.2.1, b_g, (keepA _).2.1]) (fun e => by rw [(keepC _).2.2.2.2.1, b_b, (keepA _).2.2.1])
  have hg := e_gate (after opsD (after opsC (after opsB (after opsA V)))) b s _ hz j
  have hz' : @Eq EReal (after opsE (after opsD (after opsC (after opsB (after opsA V)))) (Proc.devRef .tc main_v26) (ix3 b s j)) _ :=
    (congrFun (keepE _).2.2 (ix3 b s j)).trans (hz j)
  refine (h_out _ b s j).trans ((g_out _ b s _ _ j hz' hg).trans ?_)
  rw [(keepE _).1, (keepE _).2.1, (keepD _).1, (keepD _).2.1, (keepD _).2.2, (keepC _).1, (keepC _).2.1, (keepC _).2.2.1, (keepB _).1,
    (keepB _).2.1, (keepB _).2.2, (keepA _).1, (keepA _).2.2.2.1, (keepA _).2.2.2.2]
  unfold rowOf out
  rfl

end Pieces

/-- What the run leaves is the operations' result. -/
theorem res_eq (m : (ℓ : Loc nD τ sig) → Buf (Elt Ideal) ℓ) (c : Dev nD) :
    res_main_v40 m c = after ops (fun b => m (c, b)) (Proc.devRef .tc main_v40) :=
  Eq.symm (by after_results_simp; rfl)

end Cert.Final.R

end
-- ==== Proof.Merge.MSpec.lean ====
/- What the merge of the two branches computes on one row: their gated sum, its product, and a layer norm. -/
module

public import proofs.«01_k».proof.Proof.Final.FSpec

@[expose] public section

noncomputable section

namespace Cert.Merge

open Idealize.ShloMosaic

/-- The gated sum of the branches, by place. -/
def mrg (x ys yl : Fin 1024 → EReal) (ws wl wa wb : Fin 1024 → Fin 1024 → EReal) (k : Fin 1024) : EReal :=
  Ideal.logistic (∑ e, x e * ws e k) * (∑ e, ys e * wa e k) + Ideal.logistic (∑ e, x e * wl e k) * ∑ e, yl e * wb e k

/-- Its product with the output weights. -/
def mix (x ys yl : Fin 1024 → EReal) (ws wl wa wb wo : Fin 1024 → Fin 1024 → EReal) (j : Fin 1024) : EReal :=
  ∑ k, mrg x ys yl ws wl wa wb k * wo k j

/-- The whole row, of its inputs. -/
def rowOf (x ys yl : Fin 1024 → EReal) (ws wl wa wb wo : Fin 1024 → Fin 1024 → EReal) (g b : Fin 1024 → EReal) : Fin 1024 → EReal :=
  Final.norm (Final.res x (mix x ys yl ws wl wa wb wo)) g b

theorem rowOf_congr {x x' ys ys' yl yl' g g' b b' : Fin 1024 → EReal} {ws ws' wl wl' wa wa' wb wb' wo wo' : Fin 1024 → Fin 1024 → EReal}
    (hx : ∀ e, x e = x' e) (hs : ∀ e, ys e = ys' e) (hl : ∀ e, yl e = yl' e) (hws : ∀ e j, ws e j = ws' e j)
    (hwl : ∀ e j, wl e j = wl' e j) (hwa : ∀ e j, wa e j = wa' e j) (hwb : ∀ e j, wb e j = wb' e j) (hwo : ∀ e j, wo e j = wo' e j)
    (hg : ∀ e, g e = g' e) (hb : ∀ e, b e = b' e) (j : Fin 1024) :
    rowOf x ys yl ws wl wa wb wo g b j = rowOf x' ys' yl' ws' wl' wa' wb' wo' g' b' j := by
  rw [funext hx, funext hs, funext hl, funext fun e => funext (hws e), funext fun e => funext (hwl e), funext fun e => funext (hwa e),
    funext fun e => funext (hwb e), funext fun e => funext (hwo e), funext hg, funext hb]

end Cert.Merge

end
-- ==== Proof.Merge.MBody.lean ====
/- What the body of the merge call computes at an index of its block of rows. -/
module

public import proofs.«01_k».proof.Proof.Gen.Kernel3Ideal.Frame
public import proofs.«01_k».proof.Proof.Mlstm.KVal
public import proofs.«01_k».proof.Proof.Merge.MSpec
public import Idealize.ShloMosaic.Lib.Claim
public import Idealize.ShloMosaic.Lib.StableHlo.ReadAt
public import Idealize.ShloMosaic.Lib.Pipeline.ValueKit

@[expose] public section

set_option maxRecDepth 16384

noncomputable section

namespace Cert.Merge

open Cert.Kernel3Ideal Cert.Kernel3Ideal.Gen Idealize.ShloMosaic Idealize.ShloMosaic.TcCoe
open Cert.Final (res cen dev norm)

section Body

theorem gate_at (v16 : Vec Ideal S512x1024 .f32) (w : Vec Ideal S1024x1024 .bf16) (r : Fin 512) (k : Fin 1024) :
    k0_pay7 v16 w (ix2 r k) = Ideal.logistic (∑ e : Fin 1024, HMul.hMul (α := EReal) (v16 (ix2 r e)) (w (ix2 e k))) := by
  pointwise [k0_pay7, k0_pay6, k0_pay5]
  rw [Mlstm.ofBits_half, Mlstm.sigmoid_tanh]

theorem prod_at (v29 : Vec Ideal S512x1024 .bf16) (w : Vec Ideal S1024x1024 .bf16) (r : Fin 512) (k : Fin 1024) :
    k0_pay8 v29 w (ix2 r k) = ∑ e : Fin 1024, HMul.hMul (α := EReal) (v29 (ix2 r e)) (w (ix2 e k)) := by
  pointwise [k0_pay8]

variable (v17 v28 v33 : FVec Ideal S512x1024 .f32) (v18 : FVec Ideal S512x1024 .bf16) (v35 v47 v55 : Vec Ideal S1024x1024 .bf16)
  (v45 : Vec Ideal S512x1024 .bf16) (x : Fin 1024 → EReal) (y : Fin 1024 → EReal) (r : Fin 512)

theorem cen_at (p : Fin 1024 → EReal) (h17 : ∀ e, v17 (ix2 r e) = x e) (h18 : ∀ e, v18 (ix2 r e) = x e)
    (hp : ∀ k, HMul.hMul (α := EReal) (v28 (ix2 r k)) (v33 (ix2 r k)) = p k) (e : Fin 1024) :
    k0_pay11 v17 v18 v28 v33 v35 v45 v47 v55 (ix2 r e) =
      cen (res x (fun j => ∑ k, (p k + Ideal.logistic (∑ e : Fin 1024, x e * (v35 (ix2 e k) : EReal)) *
        ∑ e : Fin 1024, HMul.hMul (α := EReal) (v45 (ix2 r e)) (v47 (ix2 e k))) * (v55 (ix2 k j) : EReal))) e := by
  pointwise [k0_pay11]
  simp only [h17, h18, hp, Mlstm.ofBits_half, Mlstm.sigmoid_tanh]
  rfl

theorem sq_at (h : ∀ e, k0_pay11 v17 v18 v28 v33 v35 v45 v47 v55 (ix2 r e) = y e) :
    k0_pay12 v17 v18 v28 v33 v35 v45 v47 v55 (ix2 r 0) = ∑ e, y e * y e := by
  pointwise [k0_pay12]
  simp only [h]

theorem norm_at (v60 v62 : FVec Ideal S1x1024 .f32) (v68 : FVec Ideal S512x1024 .f32) (v71 : FVec Ideal S512x1 .f32) (g b : Fin 1024 → EReal)
    (h60 : ∀ e, v60 (ix2 0 e) = g e) (h62 : ∀ e, v62 (ix2 0 e) = b e) (h68 : ∀ e, v68 (ix2 r e) = cen y e)
    (h71 : v71 (ix2 r 0) = ∑ e, cen y e * cen y e) (j : Fin 1024) :
    k0_pay13 v60 v62 v68 v71 (ix2 r j) = norm y g b j := by
  pointwise [k0_pay13]
  simp only [h60, h62, h68, h71]
  rfl

end Body

/-- The two halves of the gates' weights. -/
def half (n : Fin 2) (w : Vec Ideal S1024x2048 .bf16) : Vec Ideal S1024x1024 .bf16 := fun y =>
  w (ix2 (y 0) ⟨1024 * n.val + (y 1).val, by have : (y 1).val < 1024 := (y 1).isLt; omega⟩)

section Row

variable (x0 : Vec Ideal S512x1024 .f32) (x1 : Vec Ideal S512x1024 .bf16) (x2 : Vec Ideal S512x1024 .bf16) (x3 : Vec Ideal S1024x2048 .bf16)
  (x4 : Vec Ideal S1024x1024 .bf16) (x5 : Vec Ideal S1024x1024 .bf16) (x6 : Vec Ideal S1024x1024 .bf16) (x7 : Vec Ideal S1x1024 .f32)
  (x8 : Vec Ideal S1x1024 .f32)

/-- What the body leaves in its block of rows. -/
def body : Vec Ideal S512x1024 .f32 :=
  k0_pay13 (k0_pay9 x7) (k0_pay10 x8)
    (k0_pay11 (k0_pay5 x0) (k0_pay6 x0) (k0_pay7 x0 (half 0 x3)) (k0_pay8 x1 x4) (half 1 x3) x2 x5 x6)
    (k0_pay12 (k0_pay5 x0) (k0_pay6 x0) (k0_pay7 x0 (half 0 x3)) (k0_pay8 x1 x4) (half 1 x3) x2 x5 x6)

theorem body_apply (r : Fin 512) (j : Fin 1024) :
    body x0 x1 x2 x3 x4 x5 x6 x7 x8 (ix2 r j) =
      rowOf (fun e => x0 (ix2 r e)) (fun e => x1 (ix2 r e)) (fun e => x2 (ix2 r e))
        (fun e k => x3 (ix2 e ⟨k.val, by omega⟩)) (fun e k => x3 (ix2 e ⟨1024 + k.val, by omega⟩)) (fun e k => x4 (ix2 e k))
        (fun e k => x5 (ix2 e k)) (fun e k => x6 (ix2 e k)) (fun e => x7 (ix2 0 e)) (fun e => x8 (ix2 0 e)) j := by
  have hc := fun e => cen_at (k0_pay5 x0) (k0_pay7 x0 (half 0 x3)) (k0_pay8 x1 x4) (k0_pay6 x0) (half 1 x3) x5 x6 x2
    (fun e => x0 (ix2 r e)) r _ (fun e => by pointwise [k0_pay5]) (fun e => by pointwise [k0_pay6, k0_pay5])
    (fun k => by rw [gate_at, prod_at]) e
  have h := norm_at _ r (k0_pay9 x7) (k0_pay10 x8) _ _ (fun e => x7 (ix2 0 e)) (fun e => x8 (ix2 0 e))
    (fun e => by pointwise [k0_pay9]) (fun e => by pointwise [k0_pay10]) hc (sq_at _ _ _ _ _ _ _ _ _ r hc) j
  refine h.trans ?_
  refine rowOf_congr (fun _ => rfl) (fun _ => rfl) (fun _ => rfl) (fun e k => ?_) (fun e k => rfl) (fun _ _ => rfl) (fun _ _ => rfl)
    (fun _ _ => rfl) (fun _ => rfl) (fun _ => rfl) j
  exact congrArg (fun i => x3 (ix2 e i)) (Fin.ext (by show 1024 * 0 + k.val = k.val; omega))

end Row

end Cert.Merge

end
-- ==== Proof.Merge.MKernel.lean ====
/- What a grid point of the merge call leaves in its block of rows, in either case. -/
module

public import proofs.«01_k».proof.Proof.Merge.MBody

@[expose] public section

set_option maxRecDepth 16384

noncomputable section

namespace Cert.Merge

open Cert.Kernel3Ideal Cert.Kernel3Ideal.Gen Idealize.ShloMosaic Idealize.ShloMosaic.TcCoe

variable (c : Dev nD) (i : grid0.Coords)
  (arg1 : Memref sig .tc .vmem S512x1024 .f32) (harg1 : arg1.IsWhole) (arg2 : Memref sig .tc .vmem S512x1024 .bf16) (harg2 : arg2.IsWhole)
  (arg3 : Memref sig .tc .vmem S512x1024 .bf16) (harg3 : arg3.IsWhole) (arg4 : Memref sig .tc .vmem S1024x2048 .bf16) (harg4 : arg4.IsWhole)
  (arg5 : Memref sig .tc .vmem S1024x1024 .bf16) (harg5 : arg5.IsWhole) (arg6 : Memref sig .tc .vmem S1024x1024 .bf16) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S256x1024 .bf16) (harg10 : arg10.IsWhole)
  (arg11 : Memref sig .tc .vmem S128x512 .f32) (harg11 : arg11.IsWhole)
  (arg12 : Memref sig .tc .vmem S1x1024x512 .f32) (harg12 : arg12.IsWhole)
  (arg13 : Memref sig .tc .vmem S1x1024x512 .f32) (harg13 : arg13.IsWhole)
  (arg14 : Memref sig .tc .vmem S1x512x1024 .f32) (harg14 : arg14.IsWhole)
  (arg15 : Memref sig .tc .vmem S512x1024 .f32) (harg15 : arg15.IsWhole)
  (arg16 : Memref sig .tc .vmem S512x2x512 .bf16) (harg16 : arg16.IsWhole) (arg17 : Memref sig .tc .vmem S8x512 .i32) (harg17 : arg17.IsWhole)
  (arg18 : Memref sig .tc .vmem S128x128 .i32) (harg18 : arg18.IsWhole)
  (arg19 : Memref sig .tc .vmem S1x1024x512 .bf16) (harg19 : arg19.IsWhole)
  (arg20 : Memref sig .tc .vmem S1x1024x512 .bf16) (harg20 : arg20.IsWhole)
  (arg21 : Memref sig .tc .vmem S1x512x1024 .bf16) (harg21 : arg21.IsWhole)
  (arg22 : Memref sig .tc .vmem S8x512 .f32) (harg22 : arg22.IsWhole) (arg23 : Memref sig .tc .vmem S128x128 .f32) (harg23 : arg23.IsWhole)
  (x0 : Vec Ideal S512x1024 .f32) (x1 : Vec Ideal S512x1024 .bf16) (x2 : Vec Ideal S512x1024 .bf16) (x3 : Vec Ideal S1024x2048 .bf16)
  (x4 : Vec Ideal S1024x1024 .bf16) (x5 : Vec Ideal S1024x1024 .bf16) (x6 : Vec Ideal S1024x1024 .bf16) (x7 : Vec Ideal S1x1024 .f32)
  (x8 : Vec Ideal S1x1024 .f32) (x9 : Vec Ideal S256x1024 .bf16) (x10 : Vec Ideal S128x512 .f32) (x11 : Vec Ideal S1x1024x512 .f32)
  (x12 : Vec Ideal S1x1024x512 .f32) (x13 : Vec Ideal S1x512x1024 .f32)

theorem half_eq0 : View.readAt (Elt Ideal) arg4.view (Rect.unit (s := S1024x2048) ![0, 0] S1024x1024.size inb_S1024x2048_S1024x1024_0_0).toLoadRect (harg4.unread x3) = half 0 x3 := by
  funext y
  rw [View.readAt_apply, harg4.read_unread]
  unfold half
  refine congrArg x3 (funext fun a => ?_)
  match a with
  | ⟨0, _⟩ => exact Fin.ext (by show 0 + 1 * (y 0).val = (y 0).val; omega)
  | ⟨1, _⟩ => exact Fin.ext (by show 0 + 1 * (y 1).val = 1024 * 0 + (y 1).val; omega)

theorem half_eq1 : View.readAt (Elt Ideal) arg4.view (Rect.unit (s := S1024x2048) ![0, 1024] S1024x1024.size inb_S1024x2048_S1024x1024_0_1024).toLoadRect (harg4.unread x3) = half 1 x3 := by
  funext y
  rw [View.readAt_apply, harg4.read_unread]
  unfold half
  refine congrArg x3 (funext fun a => ?_)
  match a with
  | ⟨0, _⟩ => exact Fin.ext (by show 0 + 1 * (y 0).val = (y 0).val; omega)
  | ⟨1, _⟩ => exact Fin.ext (by show 1024 + 1 * (y 1).val = 1024 * 1 + (y 1).val; omega)

/-- The stored block, of the blocks the body loads. -/
theorem stored : k0_pay13 (k0_pay9 (View.readAt (Elt Ideal) arg8.view (Rect.unit (s := S1x1024) ![0, 0] S1x1024.size inb_S1x1024_S1x1024_0_0).toLoadRect (harg8.unread x7)))
    (k0_pay10 (View.readAt (Elt Ideal) arg9.view (Rect.unit (s := S1x1024) ![0, 0] S1x1024.size inb_S1x1024_S1x1024_0_0).toLoadRect (harg9.unread x8)))
    (k0_pay11 (k0_pay5 (View.readAt (Elt Ideal) arg1.view (Rect.unit (s := S512x1024) ![0, 0] S512x1024.size inb_S512x1024_S512x1024_0_0).toLoadRect (harg1.unread x0)))
      (k0_pay6 (View.readAt (Elt Ideal) arg1.view (Rect.unit (s := S512x1024) ![0, 0] S512x1024.size inb_S512x1024_S512x1024_0_0).toLoadRect (harg1.unread x0)))
      (k0_pay7 (View.readAt (Elt Ideal) arg1.view (Rect.unit (s := S512x1024) ![0, 0] S512x1024.size inb_S512x1024_S512x1024_0_0).toLoadRect (harg1.unread x0))
        (View.readAt (Elt Ideal) arg4.view (Rect.unit (s := S1024x2048) ![0, 0] S1024x1024.size inb_S1024x2048_S1024x1024_0_0).toLoadRect (harg4.unread x3)))
      (k0_pay8 (View.readAt (Elt Ideal) arg2.view (Rect.unit (s := S512x1024) ![0, 0] S512x1024.size inb_S512x1024_S512x1024_0_0).toLoadRect (harg2.unread x1))
        (View.readAt (Elt Ideal) arg5.view (Rect.unit (s := S1024x1024) ![0, 0] S1024x1024.size inb_S1024x1024_S1024x1024_0_0).toLoadRect (harg5.unread x4)))
      (View.readAt (Elt Ideal) arg4.view (Rect.unit (s := S1024x2048) ![0, 1024] S1024x1024.size inb_S1024x2048_S1024x1024_0_1024).toLoadRect (harg4.unread x3))
      (View.readAt (Elt Ideal) arg3.view (Rect.unit (s := S512x1024) ![0, 0] S512x1024.size inb_S512x1024_S512x1024_0_0).toLoadRect (harg3.unread x2))
      (View.readAt (Elt Ideal) arg6.view (Rect.unit (s := S1024x1024) ![0, 0] S1024x1024.size inb_S1024x1024_S1024x1024_0_0).toLoadRect (harg6.unread x5))
      (View.readAt (Elt Ideal) arg7.view (Rect.unit (s := S1024x1024) ![0, 0] S1024x1024.size inb_S1024x1024_S1024x1024_0_0).toLoadRect (harg7.unread x6)))
    (k0_pay12 (k0_pay5 (View.readAt (Elt Ideal) arg1.view (Rect.unit (s := S512x1024) ![0, 0] S512x1024.size inb_S512x1024_S512x1024_0_0).toLoadRect (harg1.unread x0)))
      (k0_pay6 (View.readAt (Elt Ideal) arg1.view (Rect.unit (s := S512x1024) ![0, 0] S512x1024.size inb_S512x1024_S512x1024_0_0).toLoadRect (harg1.unread x0)))
      (k0_pay7 (View.readAt (Elt Ideal) arg1.view (Rect.unit (s := S512x1024) ![0, 0] S512x1024.size inb_S512x1024_S512x1024_0_0).toLoadRect (harg1.unread x0))
        (View.readAt (Elt Ideal) arg4.view (Rect.unit (s := S1024x2048) ![0, 0] S1024x1024.size inb_S1024x2048_S1024x1024_0_0).toLoadRect (harg4.unread x3)))
      (k0_pay8 (View.readAt (Elt Ideal) arg2.view (Rect.unit (s := S512x1024) ![0, 0] S512x1024.size inb_S512x1024_S512x1024_0_0).toLoadRect (harg2.unread x1))
        (View.readAt (Elt Ideal) arg5.view (Rect.unit (s := S1024x1024) ![0, 0] S1024x1024.size inb_S1024x1024_S1024x1024_0_0).toLoadRect (harg5.unread x4)))
      (View.readAt (Elt Ideal) arg4.view (Rect.unit (s := S1024x2048) ![0, 1024] S1024x1024.size inb_S1024x2048_S1024x1024_0_1024).toLoadRect (harg4.unread x3))
      (View.readAt (Elt Ideal) arg3.view (Rect.unit (s := S512x1024) ![0, 0] S512x1024.size inb_S512x1024_S512x1024_0_0).toLoadRect (harg3.unread x2))
      (View.readAt (Elt Ideal) arg6.view (Rect.unit (s := S1024x1024) ![0, 0] S1024x1024.size inb_S1024x1024_S1024x1024_0_0).toLoadRect (harg6.unread x5))
      (View.readAt (Elt Ideal) arg7.view (Rect.unit (s := S1024x1024) ![0, 0] S1024x1024.size inb_S1024x1024_S1024x1024_0_0).toLoadRect (harg7.unread x6))) =
    body x0 x1 x2 x3 x4 x5 x6 x7 x8 := by
  have h0 : View.readAt (Elt Ideal) arg1.view (Rect.unit (s := S512x1024) ![0, 0] S512x1024.size inb_S512x1024_S512x1024_0_0).toLoadRect (harg1.unread x0) = x0 := by
    rw [View.readAt_eq_ld, harg1.read_unread]; exact View.ld_unit_lit _ _ (by decide)
  have h1 : View.readAt (Elt Ideal) arg2.view (Rect.unit (s := S512x1024) ![0, 0] S512x1024.size inb_S512x1024_S512x1024_0_0).toLoadRect (harg2.unread x1) = x1 := by
    rw [View.readAt_eq_ld, harg2.read_unread]; exact View.ld_unit_lit _ _ (by decide)
  have h2 : View.readAt (Elt Ideal) arg3.view (Rect.unit (s := S512x1024) ![0, 0] S512x1024.size inb_S512x1024_S512x1024_0_0).toLoadRect (harg3.unread x2) = x2 := by
    rw [View.readAt_eq_ld, harg3.read_unread]; exact View.ld_unit_lit _ _ (by decide)
  have h4 : View.readAt (Elt Ideal) arg5.view (Rect.unit (s := S1024x1024) ![0, 0] S1024x1024.size inb_S1024x1024_S1024x1024_0_0).toLoadRect (harg5.unread x4) = x4 := by
    rw [View.readAt_eq_ld, harg5.read_unread]; exact View.ld_unit_lit _ _ (by decide)
  have h5 : View.readAt (Elt Ideal) arg6.view (Rect.unit (s := S1024x1024) ![0, 0] S1024x1024.size inb_S1024x1024_S1024x1024_0_0).toLoadRect (harg6.unread x5) = x5 := by
    rw [View.readAt_eq_ld, harg6.read_unread]; exact View.ld_unit_lit _ _ (by decide)
  have h6 : View.readAt (Elt Ideal) arg7.view (Rect.unit (s := S1024x1024) ![0, 0] S1024x1024.size inb_S1024x1024_S1024x1024_0_0).toLoadRect (harg7.unread x6) = x6 := by
    rw [View.readAt_eq_ld, harg7.read_unread]; exact View.ld_unit_lit _ _ (by decide)
  have h7 : View.readAt (Elt Ideal) arg8.view (Rect.unit (s := S1x1024) ![0, 0] S1x1024.size inb_S1x1024_S1x1024_0_0).toLoadRect (harg8.unread x7) = x7 := by
    rw [View.readAt_eq_ld, harg8.read_unread]; exact View.ld_unit_lit _ _ (by decide)
  have h8 : View.readAt (Elt Ideal) arg9.view (Rect.unit (s := S1x1024) ![0, 0] S1x1024.size inb_S1x1024_S1x1024_0_0).toLoadRect (harg9.unread x8) = x8 := by
    rw [View.readAt_eq_ld, harg9.read_unread]; exact View.ld_unit_lit _ _ (by decide)
  rw [half_eq0 arg4 harg4 x3, half_eq1 arg4 harg4 x3, h0, h1, h2, h4, h5, h6, h7, h8]
  rfl

theorem out_eq_A (hc0 : cond0_0 i) (hc1 : cond0_1 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 =
    body x0 x1 x2 x3 x4 x5 x6 x7 x8 := by
  unfold out0_A_14
  rw [View.read_writes_junk_eq_canon]
  show View.canon [(⟨Rect.unit (s := S512x1024) ![0, 0] S512x1024.size inb_S512x1024_S512x1024_0_0, _⟩ : View.Piece _ _ _)] = _
  rw [View.canon_cons_unit_lit _ _ _ (by decide)]
  exact stored arg1 harg1 arg2 harg2 arg3 harg3 arg4 harg4 arg5 harg5 arg6 harg6 arg7 harg7 arg8 harg8 arg9 harg9 x0 x1 x2 x3 x4 x5 x6 x7 x8

theorem out_eq_B (hc0 : ¬cond0_0 i) (hc1 : cond0_1 i) (xs0 : Vec Ideal S128x128 .f32) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 xs0 =
    body x0 x1 x2 x3 x4 x5 x6 x7 x8 := by
  unfold out0_B_14
  rw [View.read_writes_junk_eq_canon]
  show View.canon [(⟨Rect.unit (s := S512x1024) ![0, 0] S512x1024.size inb_S512x1024_S512x1024_0_0, _⟩ : View.Piece _ _ _)] = _
  rw [View.canon_cons_unit_lit _ _ _ (by decide)]
  exact stored arg1 harg1 arg2 harg2 arg3 harg3 arg4 harg4 arg5 harg5 arg6 harg6 arg7 harg7 arg8 harg8 arg9 harg9 x0 x1 x2 x3 x4 x5 x6 x7 x8

end Cert.Merge

end
-- ==== Proof.Merge.MVal.lean ====
/- The merge call's result, index by index, in terms of its arguments. -/
module

public import proofs.«01_k».proof.Proof.Merge.MKernel

@[expose] public section

set_option maxRecDepth 16384

noncomputable section

namespace Cert.Merge

open Cert.Kernel3Ideal Cert.Kernel3Ideal.Gen Idealize.ShloMosaic Idealize.ShloMosaic.TcCoe Idealize.SL.Sem

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx14 : ∀ t : Fin cfg0.N, win0_14.index t = ![t.val, 0] := by decide +kernel

section V

variable (c : Dev nD) (b : Fin 16) (s : Fin 2048)

/-- A token's row. -/
abbrev row : Fin 32768 := ⟨2048 * b.val + s.val, by omega⟩

theorem v20 (e : Fin 1024) : @Eq EReal (V m c main_v20 (ix2 (row b s) e)) (m ((c : Thread nD τ).loc main_arg0) (ix3 b s e)) := by
  unfold V
  simp only [List.flatten_cons, List.flatten_nil, List.append_nil, List.cons_append, List.nil_append]
  after_reads_at
  have hat : ∀ (b' : Fin 16) (s' : Fin 2048), b' = b → s' = s →
      @Eq EReal (m ((c : Thread nD τ).loc main_arg0) (ix3 b' s' e)) (m ((c : Thread nD τ).loc main_arg0) (ix3 b s e)) :=
    fun _ _ e1 e2 => by rw [e1, e2]
  exact hat _ _ (Fin.ext (by simp only; omega)) (Fin.ext (by simp only; omega))
theorem v22 (e : Fin 1024) : @Eq EReal (V m c main_v22 (ix2 (row b s) e)) (m ((c : Thread nD τ).loc main_arg1) (ix3 b s e)) := by
  unfold V
  simp only [List.flatten_cons, List.flatten_nil, List.append_nil, List.cons_append, List.nil_append]
  after_reads_at
  have hat : ∀ (b' : Fin 16) (s' : Fin 2048), b' = b → s' = s →
      @Eq EReal (m ((c : Thread nD τ).loc main_arg1) (ix3 b' s' e)) (m ((c : Thread nD τ).loc main_arg1) (ix3 b s e)) :=
    fun _ _ e1 e2 => by rw [e1, e2]
  exact hat _ _ (Fin.ext (by simp only; omega)) (Fin.ext (by simp only; omega))
theorem v24 (e : Fin 1024) : @Eq EReal (V m c main_v24 (ix2 (row b s) e)) (m ((c : Thread nD τ).loc main_arg2) (ix3 b s e)) := by
  unfold V
  simp only [List.flatten_cons, List.flatten_nil, List.append_nil, List.cons_append, List.nil_append]
  after_reads_at
  have hat : ∀ (b' : Fin 16) (s' : Fin 2048), b' = b → s' = s →
      @Eq EReal (m ((c : Thread nD τ).loc main_arg2) (ix3 b' s' e)) (m ((c : Thread nD τ).loc main_arg2) (ix3 b s e)) :=
    fun _ _ e1 e2 => by rw [e1, e2]
  exact hat _ _ (Fin.ext (by simp only; omega)) (Fin.ext (by simp only; omega))
theorem v2 (e : Fin 1024) (k : Fin 2048) : @Eq EReal (V m c main_v2 (ix2 e k)) (m ((c : Thread nD τ).loc main_arg3) (ix3 0 e ⟨6176 + k.val, by omega⟩)) := by
  unfold V
  simp only [List.flatten_cons, List.flatten_nil, List.append_nil, List.cons_append, List.nil_append]
  after_reads_at
theorem v26 (e j : Fin 1024) : @Eq EReal (V m c main_v26 (ix2 e j)) (m ((c : Thread nD τ).loc main_arg4) (ix3 0 e j)) := by
  unfold V
  simp only [List.flatten_cons, List.flatten_nil, List.append_nil, List.cons_append, List.nil_append]
  after_reads_at
theorem v28 (e j : Fin 1024) : @Eq EReal (V m c main_v28 (ix2 e j)) (m ((c : Thread nD τ).loc main_arg5) (ix3 0 e j)) := by
  unfold V
  simp only [List.flatten_cons, List.flatten_nil, List.append_nil, List.cons_append, List.nil_append]
  after_reads_at
theorem v30 (e j : Fin 1024) : @Eq EReal (V m c main_v30 (ix2 e j)) (m ((c : Thread nD τ).loc main_arg6) (ix3 0 e j)) := by
  unfold V
  simp only [List.flatten_cons, List.flatten_nil, List.append_nil, List.cons_append, List.nil_append]
  after_reads_at
theorem v32 (e : Fin 1024) : @Eq EReal (V m c main_v32 (ix2 0 e)) (m ((c : Thread nD τ).loc main_arg7) (ix2 0 e)) := by
  unfold V
  simp only [List.flatten_cons, List.flatten_nil, List.append_nil, List.cons_append, List.nil_append]
  after_reads_at
theorem v34 (e : Fin 1024) : @Eq EReal (V m c main_v34 (ix2 0 e)) (m ((c : Thread nD τ).loc main_arg8) (ix2 0 e)) := by
  unfold V
  simp only [List.flatten_cons, List.flatten_nil, List.append_nil, List.cons_append, List.nil_append]
  after_reads_at

end V

section Blk

variable (c : Dev nD) (t : Fin cfg0.N) (r : Fin 512)

theorem blk0 (e : Fin 1024) : iblk m c 0 t (ix2 r e) = V m c main_v20 (ix2 ⟨512 * t.val + r.val, by have := lt_of_lt_of_eq t.isLt N_0; omega⟩ e) := by
  blk_ext [iblk, idx0]
theorem blk1 (e : Fin 1024) : iblk m c 1 t (ix2 r e) = V m c main_v22 (ix2 ⟨512 * t.val + r.val, by have := lt_of_lt_of_eq t.isLt N_0; omega⟩ e) := by
  blk_ext [iblk, idx1]
theorem blk2 (e : Fin 1024) : iblk m c 2 t (ix2 r e) = V m c main_v24 (ix2 ⟨512 * t.val + r.val, by have := lt_of_lt_of_eq t.isLt N_0; omega⟩ e) := by
  blk_ext [iblk, idx2]
theorem blk3 (e : Fin 1024) (k : Fin 2048) : iblk m c 3 t (ix2 e k) = V m c main_v2 (ix2 e k) := by
  blk_ext [iblk, idx3]
theorem blk4 (e j : Fin 1024) : iblk m c 4 t (ix2 e j) = V m c main_v26 (ix2 e j) := by
  blk_ext [iblk, idx4]
theorem blk5 (e j : Fin 1024) : iblk m c 5 t (ix2 e j) = V m c main_v28 (ix2 e j) := by
  blk_ext [iblk, idx5]
theorem blk6 (e j : Fin 1024) : iblk m c 6 t (ix2 e j) = V m c main_v30 (ix2 e j) := by
  blk_ext [iblk, idx6]
theorem blk7 (e : Fin 1024) : iblk m c 7 t (ix2 0 e) = V m c main_v32 (ix2 0 e) := by
  blk_ext [iblk, idx7]
theorem blk8 (e : Fin 1024) : iblk m c 8 t (ix2 0 e) = V m c main_v34 (ix2 0 e) := by
  blk_ext [iblk, idx8]

theorem flush14 : ∀ t : Fin cfg0.N, (cfg0.win 14).flush t = true := by decide +kernel

/-- Two points write different blocks of the result. -/
theorem disjoint14 (t t' : Fin cfg0.N) (h : t ≠ t') : Disjoint ((cfg0.win 14).blk t).view.set ((cfg0.win 14).blk t').view.set :=
  (cfg0.win 14).disjoint_blk fun e => h (Fin.ext (by
    have := congrFun ((idx14 t).symm.trans (e.trans (idx14 t'))) 0
    exact this))

/-- What a point leaves in its block, whichever case it is. -/
theorem outs_eq : (outsAt0 m c t.val t.isLt).1 =
    body (iblk m c 0 t) (iblk m c 1 t) (iblk m c 2 t) (iblk m c 3 t) (iblk m c 4 t) (iblk m c 5 t) (iblk m c 6 t) (iblk m c 7 t) (iblk m c 8 t) := by
  by_cases h0 : t.val % 16 = 0
  · simp only [outsAt0_A m c t h0]
    exact (out_eq_A c (grid0.coords t) (ms0_0 t) (hs0_0 t) (ms0_1 t) (hs0_1 t) (ms0_2 t) (hs0_2 t) (ms0_3 t) (hs0_3 t) (ms0_4 t) (hs0_4 t) (ms0_5 t) (hs0_5
      t) (ms0_6 t) (hs0_6 t) (ms0_7 t) (hs0_7 t) (ms0_8 t) (hs0_8 t) (ms0_9 t) (hs0_9 t) (ms0_10 t) (hs0_10 t) (ms0_11 t) (hs0_11 t) (ms0_12
      t) (hs0_12 t) (ms0_13 t) (hs0_13 t) (ms0_14 t) (hs0_14 t) (ms0_15 t) (hs0_15 t) (ms0_16 t) (hs0_16 t) (ms0_17 t) (hs0_17 t) (ms0_18 t)
      (hs0_18 t) (ms0_19 t) (hs0_19 t) (ms0_20 t) (hs0_20 t) (ms0_21 t) (hs0_21 t) scM0_0 (Memref.isWhole_whole _) (iblk m c 0 t) (iblk m c 1
      t) (iblk m c 2 t) (iblk m c 3 t) (iblk m c 4 t) (iblk m c 5 t) (iblk m c 6 t) (iblk m c 7 t) (iblk m c 8 t) (iblk m c 9 t) (iblk m c 10
      t) (iblk m c 11 t) (iblk m c 12 t) (iblk m c 13 t) ((hcond0_0 t).mpr h0) (hcond0_1 t))
  · simp only [outsAt0_B m c t h0]
    exact (out_eq_B c (grid0.coords t) (ms0_0 t) (hs0_0 t) (ms0_1 t) (hs0_1 t) (ms0_2 t) (hs0_2 t) (ms0_3 t) (hs0_3 t) (ms0_4 t) (hs0_4 t) (ms0_5 t) (hs0_5
      t) (ms0_6 t) (hs0_6 t) (ms0_7 t) (hs0_7 t) (ms0_8 t) (hs0_8 t) (ms0_9 t) (hs0_9 t) (ms0_10 t) (hs0_10 t) (ms0_11 t) (hs0_11 t) (ms0_12
      t) (hs0_12 t) (ms0_13 t) (hs0_13 t) (ms0_14 t) (hs0_14 t) (ms0_15 t) (hs0_15 t) (ms0_16 t) (hs0_16 t) (ms0_17 t) (hs0_17 t) (ms0_18 t)
      (hs0_18 t) (ms0_19 t) (hs0_19 t) (ms0_20 t) (hs0_20 t) (ms0_21 t) (hs0_21 t) scM0_0 (Memref.isWhole_whole _) (iblk m c 0 t) (iblk m c 1
      t) (iblk m c 2 t) (iblk m c 3 t) (iblk m c 4 t) (iblk m c 5 t) (iblk m c 6 t) (iblk m c 7 t) (iblk m c 8 t) (iblk m c 9 t) (iblk m c 10
      t) (iblk m c 11 t) (iblk m c 12 t) (iblk m c 13 t) (fun h => h0 ((hcond0_0 t).mp h)) (hcond0_1 t) _)

/-- The result's block at a point, after the run. -/
theorem block14 : ((cfg0.win 14).blk t).view.read (Elt Ideal) ((dats m 0 c).arrAt 14 cfg0.N) =
    (cfg0.win 14).cut (grid0.coords t)
      (body (iblk m c 0 t) (iblk m c 1 t) (iblk m c 2 t) (iblk m c 3 t) (iblk m c 4 t) (iblk m c 5 t) (iblk m c 6 t) (iblk m c 7 t) (iblk m c 8 t)) := by
  refine ((dats m 0 c).read_blk_arrAt_eq_flushed 14 (fun t t' _ _ => disjoint14 t t') cfg0.N t t.isLt (flush14 t)).trans ?_
  show (cfg0.win 14).cut (grid0.coords t) ((dats m 0 c).after 14 t) = _
  rw [after0_14, outs_eq]

theorem arr_blk (j : Fin 1024) : ((cfg0.win 14).blk t).view.read (Elt Ideal) ((dats m 0 c).arrAt 14 cfg0.N) (ix2 r j) =
    (dats m 0 c).arrAt 14 cfg0.N (ix2 ⟨512 * t.val + r.val, by have := lt_of_lt_of_eq t.isLt N_0; omega⟩ j) := by
  blk_ext [idx14]

theorem cut_blk (x : Vec Ideal S512x1024 .f32) (j : Fin 1024) : (cfg0.win 14).cut (grid0.coords t) x (ix2 r j) = x (ix2 r j) := rfl

end Blk

/-- The result's row of a token: the layer norm of the residual sum with the merged branches. -/
def row1 (c : Dev nD) (b : Fin 16) (s : Fin 2048) (j : Fin 1024) : EReal :=
  rowOf (fun e => m ((c : Thread nD τ).loc main_arg0) (ix3 b s e)) (fun e => m ((c : Thread nD τ).loc main_arg1) (ix3 b s e))
    (fun e => m ((c : Thread nD τ).loc main_arg2) (ix3 b s e)) (fun e k => m ((c : Thread nD τ).loc main_arg3) (ix3 0 e ⟨6176 + k.val, by omega⟩))
    (fun e k => m ((c : Thread nD τ).loc main_arg3) (ix3 0 e ⟨7200 + k.val, by omega⟩)) (fun e k => m ((c : Thread nD τ).loc main_arg4) (ix3 0 e k))
    (fun e k => m ((c : Thread nD τ).loc main_arg5) (ix3 0 e k)) (fun e k => m ((c : Thread nD τ).loc main_arg6) (ix3 0 e k))
    (fun e => m ((c : Thread nD τ).loc main_arg7) (ix2 0 e)) (fun e => m ((c : Thread nD τ).loc main_arg8) (ix2 0 e)) j

/-- The kernel's result: that row. -/
theorem value (c : Dev nD) (b : Fin 16) (s : Fin 2048) (j : Fin 1024) :
    @Eq EReal ((dats m 0 c).arrAt 14 cfg0.N (ix2 (row b s) j)) (row1 m c b s j) := by
  have hlt : 4 * b.val + s.val / 512 < cfg0.N := lt_of_lt_of_eq (by omega) N_0.symm
  have hr : s.val % 512 < 512 := Nat.mod_lt _ (by decide)
  obtain ⟨t, ht⟩ : ∃ t : Fin cfg0.N, t.val = 4 * b.val + s.val / 512 := ⟨⟨_, hlt⟩, rfl⟩
  obtain ⟨r, hr⟩ : ∃ r : Fin 512, r.val = s.val % 512 := ⟨⟨_, hr⟩, rfl⟩
  have hb : 512 * t.val + r.val < 32768 := by omega
  have e0 : (⟨512 * t.val + r.val, hb⟩ : Fin 32768) = row b s := Fin.ext (by simp only; omega)
  have h := congrFun (block14 m c t) (ix2 r j)
  rw [arr_blk, cut_blk, body_apply, e0] at h
  refine h.trans ?_
  have hcol : ∀ (e k : Fin 1024) (i : Fin 8224), i.val = 7200 + k.val →
      @Eq EReal (m ((c : Thread nD τ).loc main_arg3) (ix3 0 e i)) (m ((c : Thread nD τ).loc main_arg3) (ix3 0 e ⟨7200 + k.val, by omega⟩)) :=
    fun e k i hi => by rw [show i = ⟨7200 + k.val, by omega⟩ from Fin.ext hi]
  exact rowOf_congr (fun e => (blk0 m c t r e).trans (by rw [e0]; exact v20 m c b s e)) (fun e => (blk1 m c t r e).trans (by rw [e0]; exact v22 m c b s e))
    (fun e => (blk2 m c t r e).trans (by rw [e0]; exact v24 m c b s e)) (fun e k => (blk3 m c t e _).trans (v2 m c e _))
    (fun e k => ((blk3 m c t e _).trans (v2 m c e _)).trans (hcol e k _ (by simp only; omega))) (fun e k => (blk4 m c t e k).trans (v26 m c e k))
    (fun e k => (blk5 m c t e k).trans (v28 m c e k)) (fun e k => (blk6 m c t e k).trans (v30 m c e k)) (fun e => (blk7 m c t e).trans (v32 m c e))
    (fun e => (blk8 m c t e).trans (v34 m c e)) j

section Run

variable (ρ : Dev nD → PrngReg)

section Kept

variable (r : PUnit × MemSt nD τ sig (Elt Ideal)) (h : Pipeline.FramePost cfgs (dats m) 0 (V m) r) (c : Dev nD)

include h

theorem kept0 : r.2.mem ((c : Thread nD τ).loc main_arg0) = m ((c : Thread nD τ).loc main_arg0) :=
  ((h c).2 main_arg0 (Pipeline.mem_restRefs_of main_arg0 (by decide) (by decide))).trans (V_main_arg0 m c)
theorem kept1 : r.2.mem ((c : Thread nD τ).loc main_arg1) = m ((c : Thread nD τ).loc main_arg1) :=
  ((h c).2 main_arg1 (Pipeline.mem_restRefs_of main_arg1 (by decide) (by decide))).trans (V_main_arg1 m c)
theorem kept2 : r.2.mem ((c : Thread nD τ).loc main_arg2) = m ((c : Thread nD τ).loc main_arg2) :=
  ((h c).2 main_arg2 (Pipeline.mem_restRefs_of main_arg2 (by decide) (by decide))).trans (V_main_arg2 m c)
theorem kept3 : r.2.mem ((c : Thread nD τ).loc main_arg3) = m ((c : Thread nD τ).loc main_arg3) :=
  ((h c).2 main_arg3 (Pipeline.mem_restRefs_of main_arg3 (by decide) (by decide))).trans (V_main_arg3 m c)
theorem kept4 : r.2.mem ((c : Thread nD τ).loc main_arg4) = m ((c : Thread nD τ).loc main_arg4) :=
  ((h c).2 main_arg4 (Pipeline.mem_restRefs_of main_arg4 (by decide) (by decide))).trans (V_main_arg4 m c)
theorem kept5 : r.2.mem ((c : Thread nD τ).loc main_arg5) = m ((c : Thread nD τ).loc main_arg5) :=
  ((h c).2 main_arg5 (Pipeline.mem_restRefs_of main_arg5 (by decide) (by decide))).trans (V_main_arg5 m c)
theorem kept6 : r.2.mem ((c : Thread nD τ).loc main_arg6) = m ((c : Thread nD τ).loc main_arg6) :=
  ((h c).2 main_arg6 (Pipeline.mem_restRefs_of main_arg6 (by decide) (by decide))).trans (V_main_arg6 m c)
theorem kept7 : r.2.mem ((c : Thread nD τ).loc main_arg7) = m ((c : Thread nD τ).loc main_arg7) :=
  ((h c).2 main_arg7 (Pipeline.mem_restRefs_of main_arg7 (by decide) (by decide))).trans (V_main_arg7 m c)
theorem kept8 : r.2.mem ((c : Thread nD τ).loc main_arg8) = m ((c : Thread nD τ).loc main_arg8) :=
  ((h c).2 main_arg8 (Pipeline.mem_restRefs_of main_arg8 (by decide) (by decide))).trans (V_main_arg8 m c)
theorem kept9 : r.2.mem ((c : Thread nD τ).loc main_arg9) = m ((c : Thread nD τ).loc main_arg9) :=
  ((h c).2 main_arg9 (Pipeline.mem_restRefs_of main_arg9 (by decide) (by decide))).trans (V_main_arg9 m c)
theorem kept10 : r.2.mem ((c : Thread nD τ).loc main_arg10) = m ((c : Thread nD τ).loc main_arg10) :=
  ((h c).2 main_arg10 (Pipeline.mem_restRefs_of main_arg10 (by decide) (by decide))).trans (V_main_arg10 m c)
theorem kept11 : r.2.mem ((c : Thread nD τ).loc main_arg11) = m ((c : Thread nD τ).loc main_arg11) :=
  ((h c).2 main_arg11 (Pipeline.mem_restRefs_of main_arg11 (by decide) (by decide))).trans (V_main_arg11 m c)
theorem kept12 : r.2.mem ((c : Thread nD τ).loc main_arg12) = m ((c : Thread nD τ).loc main_arg12) :=
  ((h c).2 main_arg12 (Pipeline.mem_restRefs_of main_arg12 (by decide) (by decide))).trans (V_main_arg12 m c)
theorem kept13 : r.2.mem ((c : Thread nD τ).loc main_arg13) = m ((c : Thread nD τ).loc main_arg13) :=
  ((h c).2 main_arg13 (Pipeline.mem_restRefs_of main_arg13 (by decide) (by decide))).trans (V_main_arg13 m c)
theorem kept14 : r.2.mem ((c : Thread nD τ).loc main_arg14) = m ((c : Thread nD τ).loc main_arg14) :=
  ((h c).2 main_arg14 (Pipeline.mem_restRefs_of main_arg14 (by decide) (by decide))).trans (V_main_arg14 m c)
theorem kept15 : r.2.mem ((c : Thread nD τ).loc main_arg15) = m ((c : Thread nD τ).loc main_arg15) :=
  ((h c).2 main_arg15 (Pipeline.mem_restRefs_of main_arg15 (by decide) (by decide))).trans (V_main_arg15 m c)

end Kept

/-- The run leaves the result's array as its blocks say, and the arguments as they were. -/
theorem run : θ_run defs (onTc (τ := τ) (main (F := Ideal))) ⟨m, fun _ => 0, ρ⟩ fun r => ∀ c : Dev nD,
      r.2.mem ((c : Thread nD τ).loc main_v38_0) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1 14, kept0 m r h c, kept1 m r h c, kept2 m r h c, kept3 m r h c, kept4 m r h c, kept5 m r h c, kept6 m r h c, kept7 m r h c,
    kept8 m r h c, kept9 m r h c, kept10 m r h c, kept11 m r h c, kept12 m r h c, kept13 m r h c, kept14 m r h c, kept15 m r h c⟩) (run_main m ρ)

end Run

end Cert.Merge

end
-- ==== Proof.Merge.MRef.lean ====
/- The reference's result, index by index, in terms of its arguments. -/
module

public import proofs.«01_k».proof.Proof.Gen.Reference3Ideal.Run
public import proofs.«01_k».proof.Proof.Merge.MSpec
public import Idealize.ShloMosaic.Lib.Claim
public import Idealize.ShloMosaic.Lib.StableHlo.ReadAt

@[expose] public section

set_option maxRecDepth 16384

noncomputable section

namespace Cert.Merge.R

open Cert.Reference3Ideal Cert.Reference3Ideal.Value Idealize.ShloMosaic Idealize.ShloMosaic.TcCoe Idealize.ShloMosaic.StableHlo Idealize.SL.Sem
open Cert.Final (res cen dev norm)

/-! The operations in eight pieces. -/
def opsA : List (HloOp τ sig (Elt Ideal)) := ops.take 13
def opsB : List (HloOp τ sig (Elt Ideal)) := (ops.drop 13).take 11
def opsC : List (HloOp τ sig (Elt Ideal)) := (ops.drop 24).take 12
def opsD : List (HloOp τ sig (Elt Ideal)) := (ops.drop 36).take 6
def opsE : List (HloOp τ sig (Elt Ideal)) := (ops.drop 42).take 10
def opsG : List (HloOp τ sig (Elt Ideal)) := (ops.drop 52).take 11
def opsH : List (HloOp τ sig (Elt Ideal)) := (ops.drop 63).take 8
def opsI : List (HloOp τ sig (Elt Ideal)) := ops.drop 71

section Pieces

variable (V : Valuation τ sig (Elt Ideal)) (b : Fin 16) (s : Fin 2048)

theorem a_s (j : Fin 1024) : @Eq EReal (after opsA V (Proc.devRef .tc main_v11) (ix3 b s j))
    (∑ e : Fin 1024, HMul.hMul (α := EReal) (V (Proc.devRef .tc main_arg0) (ix3 b s e)) (V (Proc.devRef .tc main_arg3) (ix3 0 e ⟨6176 + j.val, by omega⟩))) := by
  unfold opsA
  after_reads_at
theorem a_l (j : Fin 1024) : @Eq EReal (after opsA V (Proc.devRef .tc main_v12) (ix3 b s j))
    (∑ e : Fin 1024, HMul.hMul (α := EReal) (V (Proc.devRef .tc main_arg0) (ix3 b s e)) (V (Proc.devRef .tc main_arg3) (ix3 0 e ⟨7200 + j.val, by omega⟩))) := by
  unfold opsA
  after_reads_at
theorem b_s (q : EReal) (j : Fin 1024) (hq : V (Proc.devRef .tc main_v11) (ix3 b s j) = q) :
    @Eq EReal (after opsB V (Proc.devRef .tc main_v21) (ix3 b s j))
      (Ideal.logistic q * ∑ e : Fin 1024, HMul.hMul (α := EReal) (V (Proc.devRef .tc main_arg1) (ix3 b s e)) (V (Proc.devRef .tc main_arg4) (ix3 0 e j))) := by
  unfold opsB
  after_reads_at
  rw [hq]
  rfl
theorem c_m (p q : EReal) (j : Fin 1024) (hp : V (Proc.devRef .tc main_v21) (ix3 b s j) = p) (hq : V (Proc.devRef .tc main_v12) (ix3 b s j) = q) :
    @Eq EReal (after opsC V (Proc.devRef .tc main_v31) (ix3 b s j))
      (p + Ideal.logistic q * ∑ e : Fin 1024, HMul.hMul (α := EReal) (V (Proc.devRef .tc main_arg2) (ix3 b s e)) (V (Proc.devRef .tc main_arg5) (ix3 0 e j))) := by
  unfold opsC
  after_reads_at
  rw [hp, hq]
  rfl
theorem d_res (w : Fin 1024 → EReal) (hw : ∀ k, V (Proc.devRef .tc main_v31) (ix3 b s k) = w k) (j : Fin 1024) :
    @Eq EReal (after opsD V (Proc.devRef .tc main_v36) (ix3 b s j))
      (res (fun e => V (Proc.devRef .tc main_arg0) (ix3 b s e)) (fun j => ∑ k, w k * (V (Proc.devRef .tc main_arg6) (ix3 0 k j) : EReal)) j) := by
  unfold opsD
  after_reads_at
  simp only [hw]
  rfl
theorem e_cen (y : Fin 1024 → EReal) (hy : ∀ e, V (Proc.devRef .tc main_v36) (ix3 b s e) = y e) (e : Fin 1024) :
    @Eq EReal (after opsE V (Proc.devRef .tc main_v44) (ix3 b s e)) (cen y e) := by
  unfold opsE
  after_reads_at
  simp only [hy]
  rfl
theorem e_g (e : Fin 1024) : @Eq EReal (after opsE V (Proc.devRef .tc main_v37) (ix1 e)) (V (Proc.devRef .tc main_arg7) (ix2 0 e)) := by
  unfold opsE
  after_reads_at
theorem e_b (e : Fin 1024) : @Eq EReal (after opsE V (Proc.devRef .tc main_v38) (ix1 e)) (V (Proc.devRef .tc main_arg8) (ix2 0 e)) := by
  unfold opsE
  after_reads_at
theorem g_dev (y : Fin 1024 → EReal) (hy : ∀ e, V (Proc.devRef .tc main_v44) (ix3 b s e) = cen y e) :
    @Eq EReal (after opsG V (Proc.devRef .tc main_v52) (ix3 b s 0)) (dev y) := by
  unfold opsG
  after_reads_at
  simp only [hy]
  rfl
theorem h_norm (y g bb : Fin 1024 → EReal) (hy : ∀ e, V (Proc.devRef .tc main_v44) (ix3 b s e) = cen y e)
    (hd : V (Proc.devRef .tc main_v52) (ix3 b s 0) = dev y) (hg : ∀ e, V (Proc.devRef .tc main_v37) (ix1 e) = g e)
    (hb : ∀ e, V (Proc.devRef .tc main_v38) (ix1 e) = bb e) (e : Fin 1024) :
    @Eq EReal (after opsH V (Proc.devRef .tc main_v60) (ix3 b s e)) (norm y g bb e) := by
  unfold opsH
  after_reads_at
  simp only [hy, hd, hg, hb]
  rfl
theorem i_out (j : Fin 1024) : @Eq EReal (after opsI V (Proc.devRef .tc main_v61) (ix2 ⟨2048 * b.val + s.val, by omega⟩ j))
    (V (Proc.devRef .tc main_v60) (ix3 b s j)) := by
  unfold opsI
  after_reads_at

theorem keepA : after opsA V (Proc.devRef .tc main_arg0) = V (Proc.devRef .tc main_arg0)
    ∧ after opsA V (Proc.devRef .tc main_arg1) = V (Proc.devRef .tc main_arg1)
    ∧ after opsA V (Proc.devRef .tc main_arg2) = V (Proc.devRef .tc main_arg2)
    ∧ after opsA V (Proc.devRef .tc main_arg4) = V (Proc.devRef .tc main_arg4)
    ∧ after opsA V (Proc.devRef .tc main_arg5) = V (Proc.devRef .tc main_arg5)
    ∧ after opsA V (Proc.devRef .tc main_arg6) = V (Proc.devRef .tc main_arg6)
    ∧ after opsA V (Proc.devRef .tc main_arg7) = V (Proc.devRef .tc main_arg7)
    ∧ after opsA V (Proc.devRef .tc main_arg8) = V (Proc.devRef .tc main_arg8) := by
  unfold opsA
  refine ⟨?_, ?_, ?_, ?_, ?_, ?_, ?_, ?_⟩ <;> after_reads_simp
theorem keepB : after opsB V (Proc.devRef .tc main_arg0) = V (Proc.devRef .tc main_arg0)
    ∧ after opsB V (Proc.devRef .tc main_arg2) = V (Proc.devRef .tc main_arg2)
    ∧ after opsB V (Proc.devRef .tc main_arg5) = V (Proc.devRef .tc main_arg5)
    ∧ after opsB V (Proc.devRef .tc main_arg6) = V (Proc.devRef .tc main_arg6)
    ∧ after opsB V (Proc.devRef .tc main_arg7) = V (Proc.devRef .tc main_arg7)
    ∧ after opsB V (Proc.devRef .tc main_arg8) = V (Proc.devRef .tc main_arg8)
    ∧ after opsB V (Proc.devRef .tc main_v12) = V (Proc.devRef .tc main_v12) := by
  unfold opsB
  refine ⟨?_, ?_, ?_, ?_, ?_, ?_, ?_⟩ <;> after_reads_simp
theorem keepC : after opsC V (Proc.devRef .tc main_arg0) = V (Proc.devRef .tc main_arg0)
    ∧ after opsC V (Proc.devRef .tc main_arg6) = V (Proc.devRef .tc main_arg6)
    ∧ after opsC V (Proc.devRef .tc main_arg7) = V (Proc.devRef .tc main_arg7)
    ∧ after opsC V (Proc.devRef .tc main_arg8) = V (Proc.devRef .tc main_arg8) := by
  unfold opsC
  refine ⟨?_, ?_, ?_, ?_⟩ <;> after_reads_simp
theorem keepD : after opsD V (Proc.devRef .tc main_arg7) = V (Proc.devRef .tc main_arg7)
    ∧ after opsD V (Proc.devRef .tc main_arg8) = V (Proc.devRef .tc main_arg8) := by
  unfold opsD
  refine ⟨?_, ?_⟩ <;> after_reads_simp
theorem keepG : after opsG V (Proc.devRef .tc main_v37) = V (Proc.devRef .tc main_v37)
    ∧ after opsG V (Proc.devRef .tc main_v38) = V (Proc.devRef .tc main_v38)
    ∧ after opsG V (Proc.devRef .tc main_v44) = V (Proc.devRef .tc main_v44) := by
  unfold opsG
  refine ⟨?_, ?_, ?_⟩ <;> after_reads_simp

theorem ops_split : after ops V = after opsI (after opsH (after opsG (after opsE (after opsD (after opsC (after opsB (after opsA V))))))) := by
  rw [← StableHlo.after_append, ← StableHlo.after_append, ← StableHlo.after_append, ← StableHlo.after_append, ← StableHlo.after_append,
    ← StableHlo.after_append, ← StableHlo.after_append]
  rfl

/-- The operations' result: the row of every token. -/
theorem value (j : Fin 1024) :
    @Eq EReal (after ops V (Proc.devRef .tc main_v61) (ix2 ⟨2048 * b.val + s.val, by omega⟩ j))
      (rowOf (fun e => V (Proc.devRef .tc main_arg0) (ix3 b s e)) (fun e => V (Proc.devRef .tc main_arg1) (ix3 b s e))
        (fun e => V (Proc.devRef .tc main_arg2) (ix3 b s e)) (fun e j => V (Proc.devRef .tc main_arg3) (ix3 0 e ⟨6176 + j.val, by omega⟩))
        (fun e j => V (Proc.devRef .tc main_arg3) (ix3 0 e ⟨7200 + j.val, by omega⟩)) (fun e j => V (Proc.devRef .tc main_arg4) (ix3 0 e j))
        (fun e j => V (Proc.devRef .tc main_arg5) (ix3 0 e j)) (fun e j => V (Proc.devRef .tc main_arg6) (ix3 0 e j))
        (fun e => V (Proc.devRef .tc main_arg7) (ix2 0 e)) (fun e => V (Proc.devRef .tc main_arg8) (ix2 0 e)) j) := by
  rw [ops_split]
  have hB := fun k => b_s (after opsA V) b s _ k (a_s V b s k)
  have hC := fun k => c_m (after opsB (after opsA V)) b s _ _ k (hB k)
    ((congrFun (keepB _).2.2.2.2.2.2 (ix3 b s k)).trans (a_l V b s k))
  have hD := d_res (after opsC (after opsB (after opsA V))) b s _ hC
  have hE := e_cen (after opsD (after opsC (after opsB (after opsA V)))) b s _ hD
  have hG := g_dev (after opsE (after opsD (after opsC (after opsB (after opsA V))))) b s _ hE
  have hH := h_norm (after opsG (after opsE (after opsD (after opsC (after opsB (after opsA V)))))) b s _
    (fun e => V (Proc.devRef .tc main_arg7) (ix2 0 e)) (fun e => V (Proc.devRef .tc main_arg8) (ix2 0 e))
    (fun e => by rw [(keepG _).2.2]; exact hE e) hG
    (fun e => by rw [(keepG _).1, e_g, (keepD _).1, (keepC _).2.2.1, (keepB _).2.2.2.2.1, (keepA _).2.2.2.2.2.2.1])
    (fun e => by rw [(keepG _).2.1, e_b, (keepD _).2, (keepC _).2.2.2, (keepB _).2.2.2.2.2.1, (keepA _).2.2.2.2.2.2.2]) j
  refine (i_out _ b s j).trans (hH.trans ?_)
  rw [(keepC _).1, (keepC _).2.1, (keepB _).1, (keepB _).2.1, (keepB _).2.2.1, (keepB _).2.2.2.1, (keepA _).1, (keepA _).2.1,
    (keepA _).2.2.1, (keepA _).2.2.2.1, (keepA _).2.2.2.2.1, (keepA _).2.2.2.2.2.1]
  unfold rowOf mix mrg
  rfl

end Pieces

/-- What the run leaves is the operations' result. -/
theorem res_eq (m : (ℓ : Loc nD τ sig) → Buf (Elt Ideal) ℓ) (c : Dev nD) :
    res_main_v61 m c = after ops (fun b => m (c, b)) (Proc.devRef .tc main_v61) :=
  Eq.symm (by after_results_simp; rfl)

end Cert.Merge.R

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Mlstm.KState
public import proofs.«01_k».proof.Proof.Mlstm.RRun
public import proofs.«01_k».proof.Proof.Final.FVal
public import proofs.«01_k».proof.Proof.Final.FRef
public import proofs.«01_k».proof.Proof.Merge.MVal
public import proofs.«01_k».proof.Proof.Merge.MRef
public import Idealize.ShloMosaic.Lib.Bf16PairInverse
public import Idealize.ShloMosaic.Adequacy
public import Idealize.ShloMosaic.Init

@[expose] public section

set_option maxRecDepth 16384

noncomputable section

namespace Cert.Proof

open Idealize.ShloMosaic Idealize.SL.Sem Idealize.ShloMosaic.TcCoe
open Cert.Mlstm

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩) (R.run m ρ)

/-- Every index of the result is a row of a chunk and a place of a head. -/
theorem split_index (i : Cert.KernelIdeal.S16x2048x1024.Idx) :
    ∃ (b n : Fin 16) (h : Fin 8) (t d : Fin 128), i = ix3 b (Spec.row n t) ⟨128 * h.val + d.val, by omega⟩ := by
  refine ⟨i 0, ⟨(i 1).val / 128, ?_⟩, ⟨(i 2).val / 128, ?_⟩, ⟨(i 1).val % 128, ?_⟩, ⟨(i 2).val % 128, ?_⟩, ?_⟩
  · have : (i 1).val < 2048 := (i 1).isLt
    omega
  · have : (i 2).val < 1024 := (i 2).isLt
    omega
  · omega
  · omega
  · funext a
    match a with
    | ⟨0, _⟩ => rfl
    | ⟨1, _⟩ => exact Fin.ext (by show (i 1).val = 128 * ((i 1).val / 128) + (i 1).val % 128; omega)
    | ⟨2, _⟩ => exact Fin.ext (by show (i 2).val = 128 * ((i 2).val / 128) + (i 2).val % 128; omega)

theorem algebraic : Cert.algebraic_KernelIdeal_ReferenceIdeal := fun m ρ m' ρ' _ hargs => by
  refine ⟨fun c => Cert.KernelIdeal.Value.G4 m c, Cert.KernelIdeal.Value.run m ρ, ?_⟩
  refine (θ_run Cert.ReferenceIdeal.defs _ _).mono (fun r h c => ⟨?_, (h c).2⟩) (R.run m' ρ')
  refine (h c).1.trans (funext fun i => ?_)
  obtain ⟨b, n, hd, t, d, rfl⟩ := split_index i
  refine (R.value m' c b n hd t d).trans (Eq.trans ?_ (G4_apply m c b n hd t d).symm)
  have e : R.inp (R.V0 m' c) = inpK m c := by
    obtain ⟨h0, h1, h2, h3, h4⟩ := hargs c
    unfold R.inp inpK
    congr 1
    · funext b t e; exact congrFun h0 _
    · funext e k; exact congrFun h1 _
    · funext h; exact congrFun h2 _
    · funext h; exact congrFun h3 _
    · funext k; exact congrFun h4 _
  rw [e]

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- Every index of the result is a token's row and a place. -/
theorem split_index2 (i : Cert.Kernel2Ideal.S32768x1024.Idx) :
    ∃ (b : Fin 16) (s : Fin 2048) (j : Fin 1024), i = ix2 ⟨2048 * b.val + s.val, by omega⟩ j := by
  have h : (i 0).val < 32768 := (i 0).isLt
  refine ⟨⟨(i 0).val / 2048, by omega⟩, ⟨(i 0).val % 2048, Nat.mod_lt _ (by decide)⟩, i 1, ?_⟩
  funext a
  match a with
  | ⟨0, _⟩ => exact Fin.ext (by show (i 0).val = 2048 * ((i 0).val / 2048) + (i 0).val % 2048; omega)
  | ⟨1, _⟩ => rfl

theorem algebraic2 : Cert.algebraic_Kernel2Ideal_Reference2Ideal := fun m ρ m' ρ' _ hargs => by
  refine ⟨_, Cert.Kernel2Ideal.Value.run_blocks m ρ, ?_⟩
  refine (θ_run Cert.Reference2Ideal.defs _ _).mono (fun r h c => ⟨?_, (h c).2⟩) (Cert.Reference2Ideal.Value.run m' ρ')
  refine (h c).1.trans ((Final.R.res_eq m' c).trans (funext fun i => ?_))
  obtain ⟨b, s, j, rfl⟩ := split_index2 i
  refine (Final.R.value _ b s j).trans (Eq.trans ?_ (Final.value m c b s j).symm)
  obtain ⟨h0, h1, h2, h3, h4, h5, h6⟩ := hargs c
  exact Final.rowOf_congr (fun e => congrFun h0 _) (fun e => congrFun h1 _) (fun e => congrFun h3 _) (fun e => congrFun h4 _)
    (fun e j => congrFun h5 _) (fun k => congrFun h2 _) (fun k j => congrFun h6 _) j

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The rows kept as packed words: the array, its blocks, the stores into them, and each pack of two halves. -/
theorem preserves3 : Cert.preserves_Kernel3_Kernel3Ideal :=
  ⟨IdealRules.bf16_pair.bufferStatement _ _, IdealRules.bf16_pair.bufferStatement _ _, IdealRules.bf16_pair.statement _ _,
    IdealRules.bf16_pack.statement _⟩

theorem algebraic3 : Cert.algebraic_Kernel3Ideal_Reference3Ideal := fun m ρ m' ρ' _ hargs => by
  refine ⟨_, Merge.run m ρ, ?_⟩
  refine (θ_run Cert.Reference3Ideal.defs _ _).mono (fun r h c => ⟨?_, (h c).2⟩) (Cert.Reference3Ideal.Value.run m' ρ')
  refine (h c).1.trans ((Merge.R.res_eq m' c).trans (funext fun i => ?_))
  obtain ⟨b, s, j, rfl⟩ := split_index2 i
  refine (Merge.R.value _ b s j).trans (Eq.trans ?_ (Merge.value m c b s j).symm)
  obtain ⟨h0, h1, h2, h3, h4, h5, h6, h7, h8, _⟩ := hargs c
  exact Merge.rowOf_congr (fun e => congrFun h0 _) (fun e => congrFun h1 _) (fun e => congrFun h2 _) (fun e k => congrFun h3 _)
    (fun e k => congrFun h3 _) (fun e k => congrFun h4 _) (fun e k => congrFun h5 _) (fun e k => congrFun h6 _) (fun e => congrFun h7 _)
    (fun e => congrFun h8 _) j

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_ideal, frame_reference, frame_kernel2, frame_ideal2, frame_reference2,
  frame_kernel3, frame_ideal3, frame_reference3, trivial, algebraic, trivial, algebraic2, preserves3, algebraic3⟩

end Cert.Proof

end
